-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x18 : Shape := ⟨2, ![16384, 18]⟩
abbrev S18x64x64 : Shape := ⟨3, ![18, 64, 64]⟩
abbrev S18x64 : Shape := ⟨2, ![18, 64]⟩
abbrev S18x64x32 : Shape := ⟨3, ![18, 64, 32]⟩
abbrev S18x32 : Shape := ⟨2, ![18, 32]⟩
abbrev S18x32x32 : Shape := ⟨3, ![18, 32, 32]⟩
abbrev S64x18 : Shape := ⟨2, ![64, 18]⟩
abbrev S18 : Shape := ⟨1, ![18]⟩
abbrev S96x64 : Shape := ⟨2, ![96, 64]⟩
abbrev S64 : Shape := ⟨1, ![64]⟩
abbrev S32x64 : Shape := ⟨2, ![32, 64]⟩
abbrev S_ : Shape := ⟨0, ![]⟩

class Facts : Prop where
  slices_S96x64_S32x64_64_0 : S96x64.Slices ![64, 0] S32x64
  bcast_S_S16384x64 : S_.BroadcastsInDim S16384x64 (![] : Fin 0 → Fin S16384x64.rank)
  bcast_S_S16384x18 : S_.BroadcastsInDim S16384x18 (![] : Fin 0 → Fin S16384x18.rank)
  bcast_S_S18x64x64 : S_.BroadcastsInDim S18x64x64 (![] : Fin 0 → Fin S18x64x64.rank)
  bcast_S_S18x64 : S_.BroadcastsInDim S18x64 (![] : Fin 0 → Fin S18x64.rank)
  bcast_S_S18x64x32 : S_.BroadcastsInDim S18x64x32 (![] : Fin 0 → Fin S18x64x32.rank)
  bcast_S_S18x32 : S_.BroadcastsInDim S18x32 (![] : Fin 0 → Fin S18x32.rank)
  bcast_S_S18x32x32 : S_.BroadcastsInDim S18x32x32 (![] : Fin 0 → Fin S18x32x32.rank)
  bcast_S_S64x18 : S_.BroadcastsInDim S64x18 (![] : Fin 0 → Fin S64x18.rank)
  bcast_S_S18 : S_.BroadcastsInDim S18 (![] : Fin 0 → Fin S18.rank)
  bcast_S_S32x64 : S_.BroadcastsInDim S32x64 (![] : Fin 0 → Fin S32x64.rank)

variable [Facts]

def fn_part1 {F : FTy → Type} [FloatOps F] (main_arg6 : FVec F S18x32x32 .f32) (main_arg7 : FVec F S18x32 .f32) (main_arg8 : FVec F S64x18 .f32) (main_arg9 : FVec F S18 .f32) (main_v0 : FVec F S32x64 .f32) (main_v3 : IVec S16384x64 1) (main_v6 : IVec S16384x18 1) (main_v9 : IVec S18x64x64 1) (main_v12 : IVec S18x64 1) (main_v15 : IVec S18x64x32 1) (main_v16 : FVec F S18x32 .f32) (main_v17 : FVec F S18x32 .f32) : IVec S16384x64 1 × IVec S16384x18 1 × IVec S18x64x64 1 × IVec S18x64 1 × IVec S18x64x32 1 × IVec S18x32 1 × IVec S18x32x32 1 × IVec S18x32 1 × IVec S64x18 1 × IVec S18 1 × IVec S32x64 1 :=
  let main_v18 : IVec S18x32 1 := cmpf .olt main_v16 main_v17
  let main_v19 : FVec F S18x32x32 .f32 := Host.absf main_arg6
  let main_cst_5 : FVec F S_ .f32 := constant S_ .f32 0x7F800000#32
  let main_v20 : FVec F S18x32x32 .f32 := broadcastInDim S18x32x32 ![] bcast_S_S18x32x32 main_cst_5
  let main_v21 : IVec S18x32x32 1 := cmpf .olt main_v19 main_v20
  let main_v22 : FVec F S18x32 .f32 := Host.absf main_arg7
  let main_cst_6 : FVec F S_ .f32 := constant S_ .f32 0x7F800000#32
  let main_v23 : FVec F S18x32 .f32 := broadcastInDim S18x32 ![] bcast_S_S18x32 main_cst_6
  let main_v24 : IVec S18x32 1 := cmpf .olt main_v22 main_v23
  let main_v25 : FVec F S64x18 .f32 := Host.absf main_arg8
  let main_cst_7 : FVec F S_ .f32 := constant S_ .f32 0x7F800000#32
  let main_v26 : FVec F S64x18 .f32 := broadcastInDim S64x18 ![] bcast_S_S64x18 main_cst_7
  let main_v27 : IVec S64x18 1 := cmpf .olt main_v25 main_v26
  let main_v28 : FVec F S18 .f32 := Host.absf main_arg9
  let main_cst_8 : FVec F S_ .f32 := constant S_ .f32 0x7F800000#32
  let main_v29 : FVec F S18 .f32 := broadcastInDim S18 ![] bcast_S_S18 main_cst_8
  let main_v30 : IVec S18 1 := cmpf .olt main_v28 main_v29
  let main_v31 : FVec F S32x64 .f32 := Host.absf main_v0
  let main_cst_9 : FVec F S_ .f32 := constant S_ .f32 0x7F800000#32
  let main_v32 : FVec F S32x64 .f32 := broadcastInDim S32x64 ![] bcast_S_S32x64 main_cst_9
  let main_v33 : IVec S32x64 1 := cmpf .olt main_v31 main_v32
  (main_v3, main_v6, main_v9, main_v12, main_v15, main_v18, main_v21, main_v24, main_v27, main_v30, main_v33)

def fn {F : FTy → Type} [FloatOps F] (main_arg0 : FVec F S16384x64 .f32) (main_arg1 : FVec F S16384x18 .f32) (main_arg2 : FVec F S18x64x64 .f32) (main_arg3 : FVec F S18x64 .f32) (main_arg4 : FVec F S18x64x32 .f32) (main_arg5 : FVec F S18x32 .f32) (main_arg6 : FVec F S18x32x32 .f32) (main_arg7 : FVec F S18x32 .f32) (main_arg8 : FVec F S64x18 .f32) (main_arg9 : FVec F S18 .f32) (main_arg10 : FVec F S96x64 .f32) (main_arg11 : FVec F S64 .f32) : IVec S16384x64 1 × IVec S16384x18 1 × IVec S18x64x64 1 × IVec S18x64 1 × IVec S18x64x32 1 × IVec S18x32 1 × IVec S18x32x32 1 × IVec S18x32 1 × IVec S64x18 1 × IVec S18 1 × IVec S32x64 1 :=
  let main_v0 : FVec F S32x64 .f32 := (extractStridedSlice S32x64 ![64, 0] · slices_S96x64_S32x64_64_0) main_arg10
  let main_v1 : FVec F S16384x64 .f32 := Host.absf main_arg0
  let main_cst : FVec F S_ .f32 := constant S_ .f32 0x7F800000#32
  let main_v2 : FVec F S16384x64 .f32 := broadcastInDim S16384x64 ![] bcast_S_S16384x64 main_cst
  let main_v3 : IVec S16384x64 1 := cmpf .olt main_v1 main_v2
  let main_v4 : FVec F S16384x18 .f32 := Host.absf main_arg1
  let main_cst_0 : FVec F S_ .f32 := constant S_ .f32 0x7F800000#32
  let main_v5 : FVec F S16384x18 .f32 := broadcastInDim S16384x18 ![] bcast_S_S16384x18 main_cst_0
  let main_v6 : IVec S16384x18 1 := cmpf .olt main_v4 main_v5
  let main_v7 : FVec F S18x64x64 .f32 := Host.absf main_arg2
  let main_cst_1 : FVec F S_ .f32 := constant S_ .f32 0x7F800000#32
  let main_v8 : FVec F S18x64x64 .f32 := broadcastInDim S18x64x64 ![] bcast_S_S18x64x64 main_cst_1
  let main_v9 : IVec S18x64x64 1 := cmpf .olt main_v7 main_v8
  let main_v10 : FVec F S18x64 .f32 := Host.absf main_arg3
  let main_cst_2 : FVec F S_ .f32 := constant S_ .f32 0x7F800000#32
  let main_v11 : FVec F S18x64 .f32 := broadcastInDim S18x64 ![] bcast_S_S18x64 main_cst_2
  let main_v12 : IVec S18x64 1 := cmpf .olt main_v10 main_v11
  let main_v13 : FVec F S18x64x32 .f32 := Host.absf main_arg4
  let main_cst_3 : FVec F S_ .f32 := constant S_ .f32 0x7F800000#32
  let main_v14 : FVec F S18x64x32 .f32 := broadcastInDim S18x64x32 ![] bcast_S_S18x64x32 main_cst_3
  let main_v15 : IVec S18x64x32 1 := cmpf .olt main_v13 main_v14
  let main_v16 : FVec F S18x32 .f32 := Host.absf main_arg5
  let main_cst_4 : FVec F S_ .f32 := constant S_ .f32 0x7F800000#32
  let main_v17 : FVec F S18x32 .f32 := broadcastInDim S18x32 ![] bcast_S_S18x32 main_cst_4
  fn_part1 (F := F) main_arg6 main_arg7 main_arg8 main_arg9 main_v0 main_v3 main_v6 main_v9 main_v12 main_v15 main_v16 main_v17
-- ==== Kernel.lean ====
abbrev S16384x64 : Shape := ⟨2, ![16384, 64]⟩
abbrev S16384x18 : Shape := ⟨2, ![16384, 18]⟩
abbrev S18x64x64 : Shape := ⟨3, ![18, 64, 64]⟩
abbrev S18x64 : Shape := ⟨2, ![18, 64]⟩
abbrev S18x64x32 : Shape := ⟨3, ![18, 64, 32]⟩
abbrev S18x32 : Shape := ⟨2, ![18, 32]⟩
abbrev S18x32x32 : Shape := ⟨3, ![18, 32, 32]⟩
abbrev S64x18 : Shape := ⟨2, ![64, 18]⟩
abbrev S18 : Shape := ⟨1, ![18]⟩
abbrev S96x64 : Shape := ⟨2, ![96, 64]⟩
abbrev S64 : Shape := ⟨1, ![64]⟩
abbrev S64x16384 : Shape := ⟨2, ![64, 16384]⟩
abbrev S18x16384 : Shape := ⟨2, ![18, 16384]⟩
abbrev S64x96 : Shape := ⟨2, ![64, 96]⟩
abbrev S18x32x64 : Shape := ⟨3, ![18, 32, 64]⟩
abbrev S18x1 : Shape := ⟨2, ![18, 1]⟩
abbrev S64x1 : Shape := ⟨2, ![64, 1]⟩
abbrev S64x4096 : Shape := ⟨2, ![64, 4096]⟩
abbrev S18x4096 : Shape := ⟨2, ![18, 4096]⟩
abbrev S1344x64 : Shape := ⟨2, ![1344, 64]⟩
abbrev S1280x1 : Shape := ⟨2, ![1280, 1]⟩
abbrev S5x128x256 : Shape := ⟨3, ![5, 128, 256]⟩
abbrev S640x1 : Shape := ⟨2, ![640, 1]⟩
abbrev S32x640 : Shape := ⟨2, ![32, 640]⟩
abbrev S64x640 : Shape := ⟨2, ![64, 640]⟩
abbrev S32x18 : Shape := ⟨2, ![32, 18]⟩
abbrev S1x64x64 : Shape := ⟨3, ![1, 64, 64]⟩
abbrev S64x64 : Shape := ⟨2, ![64, 64]⟩
abbrev S1x32x64 : Shape := ⟨3, ![1, 32, 64]⟩
abbrev S32x64 : Shape := ⟨2, ![32, 64]⟩
abbrev S32x1 : Shape := ⟨2, ![32, 1]⟩
abbrev S1x32x32 : Shape := ⟨3, ![1, 32, 32]⟩
abbrev S32x32 : Shape := ⟨2, ![32, 32]⟩
abbrev S64x32 : Shape := ⟨2, ![64, 32]⟩
abbrev S4096 : Shape := ⟨1, ![4096]⟩
abbrev S1x4096 : Shape := ⟨2, ![1, 4096]⟩
abbrev S1344x4096 : Shape := ⟨2, ![1344, 4096]⟩
abbrev S256x4096 : Shape := ⟨2, ![256, 4096]⟩
abbrev S256x1 : Shape := ⟨2, ![256, 1]⟩
abbrev S1x128x256 : Shape := ⟨3, ![1, 128, 256]⟩
abbrev S128x256 : Shape := ⟨2, ![128, 256]⟩
abbrev S128x4096 : Shape := ⟨2, ![128, 4096]⟩
abbrev S128x1 : Shape := ⟨2, ![128, 1]⟩
abbrev S32x4096 : Shape := ⟨2, ![32, 4096]⟩
abbrev S64x128 : Shape := ⟨2, ![64, 128]⟩

abbrev nBuf : Space → Nat
  | .hbm => 21
  | .vmem => 23
  | .smem => 0
  | _ => 0

abbrev bufTy : (tb : Table) → Fin (tcTables nBuf tb) → BufTy
  | .hbm, ⟨0, _⟩ => ⟨S16384x64, .f32⟩
  | .hbm, ⟨1, _⟩ => ⟨S16384x18, .f32⟩
  | .hbm, ⟨2, _⟩ => ⟨S18x64x64, .f32⟩
  | .hbm, ⟨3, _⟩ => ⟨S18x64, .f32⟩
  | .hbm, ⟨4, _⟩ => ⟨S18x64x32, .f32⟩
  | .hbm, ⟨5, _⟩ => ⟨S18x32, .f32⟩
  | .hbm, ⟨6, _⟩ => ⟨S18x32x32, .f32⟩
  | .hbm, ⟨7, _⟩ => ⟨S18x32, .f32⟩
  | .hbm, ⟨8, _⟩ => ⟨S64x18, .f32⟩
  | .hbm, ⟨9, _⟩ => ⟨S18, .f32⟩
  | .hbm, ⟨10, _⟩ => ⟨S96x64, .f32⟩
  | .hbm, ⟨11, _⟩ => ⟨S64, .f32⟩
  | .hbm, ⟨12, _⟩ => ⟨S64x16384, .f32⟩
  | .hbm, ⟨13, _⟩ => ⟨S18x16384, .f32⟩
  | .hbm, ⟨14, _⟩ => ⟨S18x64, .f32⟩
  | .hbm, ⟨15, _⟩ => ⟨S64x96, .f32⟩
  | .hbm, ⟨16, _⟩ => ⟨S18x32x64, .f32⟩
  | .hbm, ⟨17, _⟩ => ⟨S18x1, .f32⟩
  | .hbm, ⟨18, _⟩ => ⟨S64x1, .f32⟩
  | .hbm, ⟨19, _⟩ => ⟨S64x16384, .f32⟩
  | .hbm, ⟨20, _⟩ => ⟨S16384x64, .f32⟩
  | .local _ .vmem, ⟨0, _⟩ => ⟨S64x4096, .f32⟩
  | .local _ .vmem, ⟨1, _⟩ => ⟨S64x4096, .f32⟩
  | .local _ .vmem, ⟨2, _⟩ => ⟨S18x4096, .f32⟩
  | .local _ .vmem, ⟨3, _⟩ => ⟨S18x4096, .f32⟩
  | .local _ .vmem, ⟨4, _⟩ => ⟨S18x64x64, .f32⟩
  | .local _ .vmem, ⟨5, _⟩ => ⟨S18x64, .f32⟩
  | .local _ .vmem, ⟨6, _⟩ => ⟨S18x32x64, .f32⟩
  | .local _ .vmem, ⟨7, _⟩ => ⟨S18x32, .f32⟩
  | .local _ .vmem, ⟨8, _⟩ => ⟨S18x32x32, .f32⟩
  | .local _ .vmem, ⟨9, _⟩ => ⟨S18x32, .f32⟩
  | .local _ .vmem, ⟨10, _⟩ => ⟨S18x64, .f32⟩
  | .local _ .vmem, ⟨11, _⟩ => ⟨S18x1, .f32⟩
  | .local _ .vmem, ⟨12, _⟩ => ⟨S64x96, .f32⟩
  | .local _ .vmem, ⟨13, _⟩ => ⟨S64x1, .f32⟩
  | .local _ .vmem, ⟨14, _⟩ => ⟨S64x4096, .f32⟩
  | .local _ .vmem, ⟨15, _⟩ => ⟨S64x4096, .f32⟩
  | .local _ .vmem, ⟨16, _⟩ => ⟨S1344x64, .f32⟩
  | .local _ .vmem, ⟨17, _⟩ => ⟨S1280x1, .f32⟩
  | .local _ .vmem, ⟨18, _⟩ => ⟨S5x128x256, .f32⟩
  | .local _ .vmem, ⟨19, _⟩ => ⟨S640x1, .f32⟩
  | .local _ .vmem, ⟨20, _⟩ => ⟨S32x640, .f32⟩
  | .local _ .vmem, ⟨21, _⟩ => ⟨S64x640, .f32⟩
  | .local _ .vmem, ⟨22, _⟩ => ⟨S64x18, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S18x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S18x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S18x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S18x32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S18x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S18x32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S18x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S18x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S18x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S16384x64 : Shape := ⟨2, ![16384, 64]⟩
abbrev S16384x18 : Shape := ⟨2, ![16384, 18]⟩
abbrev S18x64x64 : Shape := ⟨3, ![18, 64, 64]⟩
abbrev S18x64 : Shape := ⟨2, ![18, 64]⟩
abbrev S18x64x32 : Shape := ⟨3, ![18, 64, 32]⟩
abbrev S18x32 : Shape := ⟨2, ![18, 32]⟩
abbrev S18x32x32 : Shape := ⟨3, ![18, 32, 32]⟩
abbrev S64x18 : Shape := ⟨2, ![64, 18]⟩
abbrev S18 : Shape := ⟨1, ![18]⟩
abbrev S96x64 : Shape := ⟨2, ![96, 64]⟩
abbrev S64 : Shape := ⟨1, ![64]⟩
abbrev S1x18 : Shape := ⟨2, ![1, 18]⟩
abbrev S_ : Shape := ⟨0, ![]⟩
abbrev S16384 : Shape := ⟨1, ![16384]⟩
abbrev S16384x1 : Shape := ⟨2, ![16384, 1]⟩
abbrev S18x64x16384 : Shape := ⟨3, ![18, 64, 16384]⟩
abbrev S18x16384x64 : Shape := ⟨3, ![18, 16384, 64]⟩
abbrev S18x1x64 : Shape := ⟨3, ![18, 1, 64]⟩
abbrev S18x16384x32 : Shape := ⟨3, ![18, 16384, 32]⟩
abbrev S18x1x32 : Shape := ⟨3, ![18, 1, 32]⟩
abbrev S18x16384 : Shape := ⟨2, ![18, 16384]⟩
abbrev S18x16384x1 : Shape := ⟨3, ![18, 16384, 1]⟩
abbrev S16384x32 : Shape := ⟨2, ![16384, 32]⟩
abbrev S16384x96 : Shape := ⟨2, ![16384, 96]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x18, .f32⟩
  | .hbm, ⟨2, _⟩ => ⟨S18x64x64, .f32⟩
  | .hbm, ⟨3, _⟩ => ⟨S18x64, .f32⟩
  | .hbm, ⟨4, _⟩ => ⟨S18x64x32, .f32⟩
  | .hbm, ⟨5, _⟩ => ⟨S18x32, .f32⟩
  | .hbm, ⟨6, _⟩ => ⟨S18x32x32, .f32⟩
  | .hbm, ⟨7, _⟩ => ⟨S18x32, .f32⟩
  | .hbm, ⟨8, _⟩ => ⟨S64x18, .f32⟩
  | .hbm, ⟨9, _⟩ => ⟨S18, .f32⟩
  | .hbm, ⟨10, _⟩ => ⟨S96x64, .f32⟩
  | .hbm, ⟨11, _⟩ => ⟨S64, .f32⟩
  | .hbm, ⟨12, _⟩ => ⟨S16384x18, .f32⟩
  | .hbm, ⟨13, _⟩ => ⟨S1x18, .f32⟩
  | .hbm, ⟨14, _⟩ => ⟨S16384x18, .f32⟩
  | .hbm, ⟨15, _⟩ => ⟨S16384x18, .f32⟩
  | .hbm, ⟨16, _⟩ => ⟨S_, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x18, .f32⟩
  | .hbm, ⟨23, _⟩ => ⟨S16384x18, .f32⟩
  | .hbm, ⟨24, _⟩ => ⟨S16384x18, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S16384x18, .f32⟩
  | .hbm, ⟨29, _⟩ => ⟨S16384x18, .f32⟩
  | .hbm, ⟨30, _⟩ => ⟨S18x64x16384, .f32⟩
  | .hbm, ⟨31, _⟩ => ⟨S18x16384x64, .f32⟩
  | .hbm, ⟨32, _⟩ => ⟨S18x1x64, .f32⟩
  | .hbm, ⟨33, _⟩ => ⟨S18x16384x64, .f32⟩
  | .hbm, ⟨34, _⟩ => ⟨S18x16384x64, .f32⟩
  | .hbm, ⟨35, _⟩ => ⟨S_, .f32⟩
  | .hbm, ⟨36, _⟩ => ⟨S18x16384x64, .f32⟩
  | .hbm, ⟨37, _⟩ => ⟨S18x16384x64, .f32⟩
  | .hbm, ⟨38, _⟩ => ⟨S18x16384x32, .f32⟩
  | .hbm, ⟨39, _⟩ => ⟨S18x1x32, .f32⟩
  | .hbm, ⟨40, _⟩ => ⟨S18x16384x32, .f32⟩
  | .hbm, ⟨41, _⟩ => ⟨S18x16384x32, .f32⟩
  | .hbm, ⟨42, _⟩ => ⟨S_, .f32⟩
  | .hbm, ⟨43, _⟩ => ⟨S18x16384x32, .f32⟩
  | .hbm, ⟨44, _⟩ => ⟨S18x16384x32, .f32⟩
  | .hbm, ⟨45, _⟩ => ⟨S18x16384x32, .f32⟩
  | .hbm, ⟨46, _⟩ => ⟨S18x1x32, .f32⟩
  | .hbm, ⟨47, _⟩ => ⟨S18x16384x32, .f32⟩
  | .hbm, ⟨48, _⟩ => ⟨S18x16384x32, .f32⟩
  | .hbm, ⟨49, _⟩ => ⟨S16384x18, .f32⟩
  | .hbm, ⟨50, _⟩ => ⟨S18x16384, .f32⟩
  | .hbm, ⟨51, _⟩ => ⟨S18x16384x1, .f32⟩
  | .hbm, ⟨52, _⟩ => ⟨S18x16384x32, .f32⟩
  | .hbm, ⟨53, _⟩ => ⟨S18x16384x32, .f32⟩
  | .hbm, ⟨54, _⟩ => ⟨S_, .f32⟩
  | .hbm, ⟨55, _⟩ => ⟨S16384x32, .f32⟩
  | .hbm, ⟨56, _⟩ => ⟨S16384x96, .f32⟩
  | .hbm, ⟨57, _⟩ => ⟨S16384x64, .f32⟩
  | .hbm, ⟨58, _⟩ => ⟨S1x64, .f32⟩
  | .hbm, ⟨59, _⟩ => ⟨S16384x64, .f32⟩
  | .hbm, ⟨60, _⟩ => ⟨S16384x64, .f32⟩
  | .hbm, ⟨61, _⟩ => ⟨S_, .f32⟩
  | .hbm, ⟨62, _⟩ => ⟨S16384x64, .f32⟩
  | .hbm, ⟨63, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call1_cst : Ref sig .tc := ⟨.hbm, 42, rfl⟩
abbrev main_call1_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call2_cst : Ref sig .tc := ⟨.hbm, 61, rfl⟩
abbrev main_call2_v0 : Ref sig .tc := ⟨.hbm, 62, rfl⟩
abbrev main_v41 : Ref sig .tc := ⟨.hbm, 63, rfl⟩

abbrev nD : Nat := 1
abbrev τ : Topo := Topo.v7x

variable {F : FTy → Type} [FloatOps F]
-- ==== Proof.Spec.lean ====
/- The mathematics of the claim, over plain functions of extended reals: one row of the batch and one output column.
   Nothing here mentions the kernel's program. -/
module

public import Idealize.ShloMosaic.Lib.Pointwise
public import Mathlib.Data.EReal.Operations
public import Mathlib.Algebra.BigOperators.Ring.Finset

@[expose] public section

noncomputable section

namespace Cert.Spec

open Idealize.ShloMosaic

/-! ## What the two programs compute -/

/-- The logit of group `g`: the row against the column `g` of the gate's weights, plus the gate's bias. -/
def logit (x : Fin 64 → EReal) (wa : Fin 64 → Fin 18 → EReal) (ba : Fin 18 → EReal) (g : Fin 18) : EReal :=
  (∑ d : Fin 64, x d * wa d g) + ba g

/-- The largest of eighteen values. -/
def top (l : Fin 18 → EReal) : EReal := Finset.univ.fold max ⊥ l

/-- The bit pattern that starts a maximum denotes the least extended real. -/
theorem ofBits_bot : Ideal.ofBits .f32 0xFF800000#32 = ⊥ := by simp [Ideal.ofBits, Ideal.ieee]

/-- The softmax of eighteen values. -/
def soft (l : Fin 18 → EReal) (g : Fin 18) : EReal :=
  Ideal.div (Ideal.exp (l g - top l)) (∑ k : Fin 18, Ideal.exp (l k - top l))

/-- The first hidden layer of one group at unit `e`. -/
def hid1 (x : Fin 64 → EReal) (w1 : Fin 64 → Fin 64 → EReal) (b1 : Fin 64 → EReal) (e : Fin 64) : EReal :=
  max ((∑ d : Fin 64, w1 d e * x d) + b1 e) 0

/-- The second hidden layer of one group at unit `o`, from the first. -/
def hid2 (h : Fin 64 → EReal) (w2 : Fin 64 → Fin 32 → EReal) (b2 : Fin 32 → EReal) (o : Fin 32) : EReal :=
  max ((∑ e : Fin 64, h e * w2 e o) + b2 o) 0

/-- The reference's refinement term of one output column: the groups' third layers, weighted and summed, against the
    column of the final weights that meets them. -/
def refined (k : Fin 18 → Fin 32 → EReal) (w3 : Fin 18 → Fin 32 → Fin 32 → EReal) (b3 : Fin 18 → Fin 32 → EReal)
    (c : Fin 18 → EReal) (w : Fin 32 → EReal) : EReal :=
  ∑ h : Fin 32, (∑ g : Fin 18, ((∑ o : Fin 32, k g o * w3 g o h) + b3 g h) * c g) * w h

/-- The kernel's bias term: the third layer's biases folded into the final weights. -/
def foldedBias (b3 : Fin 18 → Fin 32 → EReal) (c : Fin 18 → EReal) (w : Fin 32 → EReal) : EReal :=
  ∑ g : Fin 18, (∑ h : Fin 32, w h * b3 g h) * c g

/-- The kernel's product term: the third layer's weights folded into the final weights. -/
def foldedProd (k : Fin 18 → Fin 32 → EReal) (w3 : Fin 18 → Fin 32 → Fin 32 → EReal)
    (c : Fin 18 → EReal) (w : Fin 32 → EReal) : EReal :=
  ∑ g : Fin 18, ∑ o : Fin 32, (∑ h : Fin 32, w h * w3 g o h) * (k g o * c g)

/-! ## The kernel's blocks

The kernel packs four groups into one block: the second layer is a block-diagonal matrix over the four groups' hidden units,
and the third layer's folded weights lie side by side. -/

/-- One row of the block's second layer: `p` are the four groups' first-layer products, `b1` their biases, `w` the row of the
    block-diagonal matrix, `b2` the row's bias. -/
def row2 (w p b1 : Fin 256 → EReal) (b2 : EReal) : EReal :=
  max ((∑ e : Fin 256, w e * max (p e + b1 e) 0) + b2) 0

/-- What one group adds to an output: its 32 second-layer units, weighted by the group's coefficient, against the folded
    weights. -/
def slot (w k : Fin 32 → EReal) (c : EReal) : EReal := ∑ o : Fin 32, w o * (k o * c)

/-- A sum over a block row that is zero off the block's quarter `i` is the sum over that quarter. -/
theorem quarter (i : Fin 4) (f : Fin 64 → EReal) (h : Fin 256 → EReal) :
    (∑ b : Fin 256, (if b.val / 64 = i.val then f ⟨b.val % 64, Nat.mod_lt _ (by decide)⟩ else 0) * h b)
      = ∑ e : Fin 64, f e * h ⟨64 * i.val + e.val, by omega⟩ := by
  rw [Fin.sum_univ_tiles 4 64 rfl, Finset.sum_eq_single i]
  · refine Finset.sum_congr rfl fun e _ => ?_
    have h1 : (i.val * 64 + e.val) / 64 = i.val := by omega
    have h2 : (i.val * 64 + e.val) % 64 = e.val := by omega
    simp only [h1, h2, if_true, Nat.mul_comm 64]
  · intro j _ hj
    refine Finset.sum_eq_zero fun e _ => ?_
    have : (j.val * 64 + e.val) / 64 ≠ i.val := fun h => hj (Fin.ext (by omega))
    simp only [this, if_false, zero_mul]
  · exact fun h => absurd (Finset.mem_univ i) h

/-- A block row of the second layer is one group's second layer, when the block holds that group's weights in its quarter. -/
theorem row2_eq {w p b1 : Fin 256 → EReal} {b2 : EReal} (i : Fin 4) (x : Fin 64 → EReal) (w1 : Fin 64 → Fin 64 → EReal)
    (c1 : Fin 64 → EReal) (w2 : Fin 64 → Fin 32 → EReal) (c2 : Fin 32 → EReal) (o : Fin 32)
    (hw : ∀ b : Fin 256, w b = if b.val / 64 = i.val then w2 ⟨b.val % 64, Nat.mod_lt _ (by decide)⟩ o else 0)
    (hp : ∀ e : Fin 64, p ⟨64 * i.val + e.val, by omega⟩ = ∑ d : Fin 64, w1 d e * x d)
    (hb1 : ∀ e : Fin 64, b1 ⟨64 * i.val + e.val, by omega⟩ = c1 e) (hb2 : b2 = c2 o) :
    row2 w p b1 b2 = hid2 (hid1 x w1 c1) w2 c2 o := by
  unfold row2 hid2
  simp only [hw]
  rw [quarter i (fun e => w2 e o) fun b => max (p b + b1 b) 0, hb2]
  simp only [hp, hb1]
  congr 2
  exact Finset.sum_congr rfl fun e _ => mul_comm _ _

/-- Eighteen groups are four blocks of four and one of two. -/
theorem sum_groups (f : Fin 18 → EReal) :
    ∑ g : Fin 18, f g = (f 0 + f 1 + f 2 + f 3) + (f 4 + f 5 + f 6 + f 7) + (f 8 + f 9 + f 10 + f 11)
      + (f 12 + f 13 + f 14 + f 15) + (f 16 + f 17) := by
  simp only [Fin.sum_univ_succ, Fin.sum_univ_zero, add_zero, add_assoc]
  rfl

/-! ## Finite values -/

/-- An extended real that is a real number. -/
def Fin' (a : EReal) : Prop := ∃ r : ℝ, a = (r : EReal)

theorem fin_coe (r : ℝ) : Fin' (r : EReal) := ⟨r, rfl⟩
theorem fin_zero : Fin' 0 := ⟨0, rfl⟩
theorem fin_add {a b : EReal} (ha : Fin' a) (hb : Fin' b) : Fin' (a + b) := by
  obtain ⟨r, rfl⟩ := ha; obtain ⟨s, rfl⟩ := hb; exact ⟨r + s, (EReal.coe_add r s).symm⟩
theorem fin_sub {a b : EReal} (ha : Fin' a) (hb : Fin' b) : Fin' (a - b) := by
  obtain ⟨r, rfl⟩ := ha; obtain ⟨s, rfl⟩ := hb; exact ⟨r - s, (EReal.coe_sub r s).symm⟩
theorem fin_mul {a b : EReal} (ha : Fin' a) (hb : Fin' b) : Fin' (a * b) := by
  obtain ⟨r, rfl⟩ := ha; obtain ⟨s, rfl⟩ := hb; exact ⟨r * s, (EReal.coe_mul r s).symm⟩
theorem fin_max {a b : EReal} (ha : Fin' a) (hb : Fin' b) : Fin' (max a b) := by
  rcases max_choice a b with h | h <;> rw [h] <;> assumption

/-- The cast of reals into extended reals takes sums to sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fin_sum {ι : Type} (s : Finset ι) {f : ι → EReal} (h : ∀ i, Fin' (f i)) : Fin' (∑ i ∈ s, f i) := by
  choose r hr using h
  exact ⟨∑ i ∈ s, r i, by rw [coe_sum]; exact Finset.sum_congr rfl fun i _ => hr i⟩

/-- The largest of eighteen real numbers is real. -/
theorem fin_top {l : Fin 18 → EReal} (h : ∀ g, Fin' (l g)) : Fin' (top l) := by
  choose r hr using h
  have key : ∀ s : Finset (Fin 18), s.Nonempty → Fin' (s.fold max ⊥ l) := by
    classical
    intro s hs
    induction hs using Finset.Nonempty.cons_induction with
    | singleton a => rw [Finset.fold_singleton, hr a]; exact ⟨r a, by simp⟩
    | cons a s ha hs ih => rw [Finset.fold_cons]; exact fin_max ⟨r a, hr a⟩ ih
  exact key Finset.univ ⟨0, Finset.mem_univ _⟩

/-- The softmax of real numbers is real: its denominator is a positive real. -/
theorem fin_soft {l : Fin 18 → EReal} (h : ∀ g, Fin' (l g)) (g : Fin 18) : Fin' (soft l g) := by
  have hs : ∀ k, Fin' (l k - top l) := fun k => fin_sub (h k) (fin_top h)
  choose s hs using hs
  have he : ∀ k, Ideal.exp (l k - top l) = ((Real.exp (s k) : ℝ) : EReal) := fun k => by rw [hs k]; rfl
  have hpos : (0 : ℝ) < ∑ k : Fin 18, Real.exp (s k) :=
    Finset.sum_pos (fun k _ => Real.exp_pos _) ⟨0, Finset.mem_univ _⟩
  unfold soft
  simp only [he]
  rw [← coe_sum, Ideal.div, if_neg (by exact_mod_cast hpos.ne')]
  exact ⟨Real.exp (s g) * (∑ k : Fin 18, Real.exp (s k))⁻¹, by rw [EReal.coe_mul, EReal.coe_inv]⟩

theorem fin_logit {x : Fin 64 → EReal} {wa : Fin 64 → Fin 18 → EReal} {ba : Fin 18 → EReal}
    (hx : ∀ d, Fin' (x d)) (hw : ∀ d g, Fin' (wa d g)) (hb : ∀ g, Fin' (ba g)) (g : Fin 18) : Fin' (logit x wa ba g) :=
  fin_add (fin_sum _ fun d => fin_mul (hx d) (hw d g)) (hb g)

theorem fin_hid1 {x : Fin 64 → EReal} {w1 : Fin 64 → Fin 64 → EReal} {b1 : Fin 64 → EReal}
    (hx : ∀ d, Fin' (x d)) (hw : ∀ d e, Fin' (w1 d e)) (hb : ∀ e, Fin' (b1 e)) (e : Fin 64) : Fin' (hid1 x w1 b1 e) :=
  fin_max (fin_add (fin_sum _ fun d => fin_mul (hw d e) (hx d)) (hb e)) fin_zero

theorem fin_hid2 {h : Fin 64 → EReal} {w2 : Fin 64 → Fin 32 → EReal} {b2 : Fin 32 → EReal}
    (hh : ∀ e, Fin' (h e)) (hw : ∀ e o, Fin' (w2 e o)) (hb : ∀ o, Fin' (b2 o)) (o : Fin 32) : Fin' (hid2 h w2 b2 o) :=
  fin_max (fin_add (fin_sum _ fun e => fin_mul (hh e) (hw e o)) (hb o)) fin_zero

/-! ## The equation -/

/-- The folding over the reals: distribute, then exchange the sums. -/
theorem real_fold (k : Fin 18 → Fin 32 → ℝ) (w3 : Fin 18 → Fin 32 → Fin 32 → ℝ) (b3 : Fin 18 → Fin 32 → ℝ)
    (c : Fin 18 → ℝ) (w : Fin 32 → ℝ) :
    (∑ g : Fin 18, (∑ h : Fin 32, w h * b3 g h) * c g)
        + (∑ g : Fin 18, ∑ o : Fin 32, (∑ h : Fin 32, w h * w3 g o h) * (k g o * c g))
      = ∑ h : Fin 32, (∑ g : Fin 18, ((∑ o : Fin 32, k g o * w3 g o h) + b3 g h) * c g) * w h := by
  simp only [Finset.sum_mul, add_mul, Finset.sum_add_distrib]
  rw [add_comm, Finset.sum_comm (s := (Finset.univ : Finset (Fin 32))) (t := (Finset.univ : Finset (Fin 18))),
    Finset.sum_comm (s := (Finset.univ : Finset (Fin 32))) (t := (Finset.univ : Finset (Fin 18)))]
  congr 1
  · refine Finset.sum_congr rfl fun g _ => ?_
    rw [Finset.sum_comm]
    exact Finset.sum_congr rfl fun h _ => Finset.sum_congr rfl fun o _ => by ring
  · exact Finset.sum_congr rfl fun g _ => Finset.sum_congr rfl fun h _ => by ring

/-- THE EQUATION: for finite values the kernel's two folded terms add up to the reference's refinement term. -/
theorem folded_eq {k : Fin 18 → Fin 32 → EReal} {w3 : Fin 18 → Fin 32 → Fin 32 → EReal} {b3 : Fin 18 → Fin 32 → EReal}
    {c : Fin 18 → EReal} {w : Fin 32 → EReal} (hk : ∀ g o, Fin' (k g o)) (hw3 : ∀ g o h, Fin' (w3 g o h))
    (hb3 : ∀ g h, Fin' (b3 g h)) (hc : ∀ g, Fin' (c g)) (hw : ∀ h, Fin' (w h)) :
    foldedBias b3 c w + foldedProd k w3 c w = refined k w3 b3 c w := by
  choose k' hk using hk
  choose w3' hw3 using hw3
  choose b3' hb3 using hb3
  choose c' hc using hc
  choose w' hw using hw
  have := congrArg (fun r : ℝ => (r : EReal)) (real_fold k' w3' b3' c' w')
  simp only [EReal.coe_add, coe_sum, EReal.coe_mul] at this
  simpa only [foldedBias, foldedProd, refined, hk, hw3, hb3, hc, hw] using this

end Cert.Spec

end
-- ==== Proof.Ref.lean ====
/- What the reference computes, read at one element: a row of the batch and an output column. -/
module

public import proofs.«01_k».proof.Proof.Spec
public import proofs.«01_k».proof.Proof.Gen.ReferenceIdeal.Run
public import Idealize.ShloMosaic.Lib.Pointwise

@[expose] public section

set_option maxRecDepth 16384

noncomputable section

namespace Cert.Ref

open Idealize.ShloMosaic Idealize.ShloMosaic.TcCoe Idealize.SL.Sem
open Cert.ReferenceIdeal Cert.ReferenceIdeal.Gen Cert.ReferenceIdeal.Value

/-- The reference's result at row `b` and column `q`, whose argument arrays are `x`, `gv`, …: the row against the first 64
    rows of the final weights, plus the refinement term, plus the final bias, cut off below at zero. -/
theorem read (m : (ℓ : Loc nD τ sig) → Buf (Elt Ideal) ℓ) (c : Dev nD)
    (x : FVec Ideal S16384x64 .f32) (gv : FVec Ideal S16384x18 .f32) (w1 : FVec Ideal S18x64x64 .f32)
    (b1 : FVec Ideal S18x64 .f32) (w2 : FVec Ideal S18x64x32 .f32) (b2 : FVec Ideal S18x32 .f32)
    (w3 : FVec Ideal S18x32x32 .f32) (b3 : FVec Ideal S18x32 .f32) (wa : FVec Ideal S64x18 .f32) (ba : FVec Ideal S18 .f32)
    (wg : FVec Ideal S96x64 .f32) (bg : FVec Ideal S64 .f32)
    (h0 : m ((c.tc : Thread nD τ).loc main_arg0) = x) (h1 : m ((c.tc : Thread nD τ).loc main_arg1) = gv)
    (h2 : m ((c.tc : Thread nD τ).loc main_arg2) = w1) (h3 : m ((c.tc : Thread nD τ).loc main_arg3) = b1)
    (h4 : m ((c.tc : Thread nD τ).loc main_arg4) = w2) (h5 : m ((c.tc : Thread nD τ).loc main_arg5) = b2)
    (h6 : m ((c.tc : Thread nD τ).loc main_arg6) = w3) (h7 : m ((c.tc : Thread nD τ).loc main_arg7) = b3)
    (h8 : m ((c.tc : Thread nD τ).loc main_arg8) = wa) (h9 : m ((c.tc : Thread nD τ).loc main_arg9) = ba)
    (h10 : m ((c.tc : Thread nD τ).loc main_arg10) = wg) (h11 : m ((c.tc : Thread nD τ).loc main_arg11) = bg)
    (b : Fin 16384) (q : Fin 64) :
    res_main_v41 m c (ix2 b q) =
      max (((∑ d : Fin 64, x (ix2 b d) * wg (ix2 ⟨d.val, by omega⟩ q))
        + Spec.refined (fun g => Spec.hid2 (Spec.hid1 (fun d => x (ix2 b d)) (fun d e => w1 (ix3 g d e)) fun e => b1 (ix2 g e))
              (fun e o => w2 (ix3 g e o)) fun o => b2 (ix2 g o))
            (fun g o h => w3 (ix3 g o h)) (fun g h => b3 (ix2 g h))
            (fun g => Spec.soft (Spec.logit (fun d => x (ix2 b d)) (fun d g => wa (ix2 d g)) fun g => ba (ix1 g)) g
              * gv (ix2 b g))
            (fun h => wg (ix2 ⟨64 + h.val, by omega⟩ q)))
        + bg (ix1 q)) 0 := by
  unfold res_main_v41
  rw [h0, h1, h2, h3, h4, h5, h6, h7, h8, h9, h10, h11]
  pointwise [Spec.refined, Spec.hid1, Spec.hid2, Spec.soft, Spec.logit, Spec.top]
  simp only [show Ideal.ofBits .f32 4286578688#32 = ⊥ from Spec.ofBits_bot, bot_le, max_eq_right]

end Cert.Ref

end
-- ==== Proof.Pay.lean ====
/- What the body's arithmetic computes, read at one element: an output row `q` and a column `b` of the block. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Pay

open Idealize.ShloMosaic Idealize.ShloMosaic.TcCoe Idealize.SL.Sem
open Cert.KernelIdeal Cert.KernelIdeal.Gen

/-- A sum over 128 positions, quarter by quarter. -/
theorem quarters (f : Fin 128 → EReal) :
    ∑ x : Fin 128, f x = (∑ o : Fin 32, f ⟨o.val, by omega⟩) + (∑ o : Fin 32, f ⟨32 + o.val, by omega⟩)
      + (∑ o : Fin 32, f ⟨64 + o.val, by omega⟩) + ∑ o : Fin 32, f ⟨96 + o.val, by omega⟩ := by
  rw [Fin.sum_univ_tiles 4 32 rfl, Fin.sum_univ_four]
  simp only [show ((0 : Fin 4).val) = 0 from rfl, show ((1 : Fin 4).val) = 1 from rfl, show ((2 : Fin 4).val) = 2 from rfl,
    show ((3 : Fin 4).val) = 3 from rfl, Nat.zero_mul, Nat.zero_add, Nat.one_mul, Nat.reduceMul]

/-- One row of a block's second layer, from the block's buffers: `a` is the row, `b` the column. -/
abbrev row (p : Fin 256 → EReal) (c1 : FVec Ideal S256x1 .f32) (w : FVec Ideal S1x128x256 .f32)
    (c2 : FVec Ideal S128x1 .f32) (a : Fin 128) : EReal :=
  Spec.row2 (fun e => w (ix3 0 a e)) p (fun e => c1 (ix2 e 0)) (c2 (ix2 a 0))

/-- What one group of a block adds to output row `q`. -/
abbrev grp (p : Fin 256 → EReal) (c1 : FVec Ideal S256x1 .f32) (w : FVec Ideal S1x128x256 .f32)
    (c2 : FVec Ideal S128x1 .f32) (f : FVec Ideal S64x128 .f32) (q : Fin 64) (i : Fin 4) (c : EReal) : EReal :=
  Spec.slot (fun o => f (ix2 q ⟨32 * i.val + o.val, by omega⟩))
    (fun o => row p c1 w c2 ⟨32 * i.val + o.val, by omega⟩) c

/-- What a whole block adds to output row `q`: its four groups, with their coefficients. -/
abbrev block (p : Fin 256 → EReal) (c1 : FVec Ideal S256x1 .f32) (w : FVec Ideal S1x128x256 .f32)
    (c2 : FVec Ideal S128x1 .f32) (f : FVec Ideal S64x128 .f32) (q : Fin 64) (g0 g1 g2 g3 : EReal) : EReal :=
  grp p c1 w c2 f q 0 g0 + grp p c1 w c2 f q 1 g1 + grp p c1 w c2 f q 2 g2 + grp p c1 w c2 f q 3 g3

variable (v3 : FVec Ideal S64x4096 .f32) (v5 : FVec Ideal S18x4096 .f32) (v7 : FVec Ideal S18x64 .f32)
  (v10 : FVec Ideal S18x1 .f32) (v24 : FVec Ideal S1344x64 .f32) (v27 : FVec Ideal S64x18 .f32) (v30 : FVec Ideal S64x1 .f32)
  (v23 : FVec Ideal S18x4096 .f32) (v25 : FVec Ideal S1344x4096 .f32) (acc : FVec Ideal S64x4096 .f32)
  (v34 : FVec Ideal S256x4096 .f32) (c1 : FVec Ideal S256x1 .f32) (w : FVec Ideal S1x128x256 .f32)
  (c2 : FVec Ideal S128x1 .f32) (f : FVec Ideal S64x128 .f32) (q : Fin 64) (b : Fin 4096)

/-- The group coefficients: the softmax of the logits, times the genre vector. -/
theorem coef (g : Fin 18) : k0_pay104 (F := Ideal) v3 v5 v7 v10 (ix2 g b)
    = Spec.soft (Spec.logit (fun d => v3 (ix2 d b)) (fun d g => v7 (ix2 g d)) fun g => v10 (ix2 g 0)) g * v5 (ix2 g b) := by
  pointwise [k0_pay104, k0_pay103, Spec.soft, Spec.logit, Spec.top]
  simp only [show Ideal.ofBits .f32 4286578688#32 = ⊥ from Spec.ofBits_bot, mul_comm (v7 _)]

/-- The one product of the stacked weights with the block of rows. -/
theorem prod (r : Fin 1344) : k0_pay105 (F := Ideal) v3 v24 (ix2 r b) = ∑ d : Fin 64, v24 (ix2 r d) * v3 (ix2 d b) := by
  pointwise [k0_pay105, k0_pay103]

/-- The first 256 rows of that product. -/
theorem prod0 (e : Fin 256) : k0_pay107 (F := Ideal) v3 v24 (ix2 e b) = k0_pay105 (F := Ideal) v3 v24 (ix2 ⟨e.val, by omega⟩ b) := by
  pointwise [k0_pay107]

/-- The accumulator before the blocks: the row against the final weights, the folded biases, the final bias. -/
theorem acc0 : k0_pay106 (F := Ideal) v3 v5 v7 v10 v24 v27 v30 (ix2 q b)
    = k0_pay105 (F := Ideal) v3 v24 (ix2 ⟨1280 + q.val, by omega⟩ b)
      + (∑ g : Fin 18, v27 (ix2 q g) * k0_pay104 (F := Ideal) v3 v5 v7 v10 (ix2 g b)) + v30 (ix2 q 0) := by
  pointwise [k0_pay106]

/-! The case distinctions of a concatenation of four pieces of 32 rows, decided at each quarter. -/

theorem c0 (o : Fin 32) : o.val < 32 := o.isLt
theorem c1' (o : Fin 32) : ¬32 + o.val < 32 := by omega
theorem c2' (o : Fin 32) : 32 + o.val - 32 < 32 := by omega
theorem c3 (o : Fin 32) : ¬64 + o.val < 32 := by omega
theorem c4 (o : Fin 32) : ¬64 + o.val - 32 < 32 := by omega
theorem c5 (o : Fin 32) : 64 + o.val - 32 - 32 < 32 := by omega
theorem c6 (o : Fin 32) : ¬96 + o.val < 32 := by omega
theorem c7 (o : Fin 32) : ¬96 + o.val - 32 < 32 := by omega
theorem c8 (o : Fin 32) : ¬96 + o.val - 32 - 32 < 32 := by omega
theorem d1 (o : Fin 32) : 32 + (32 + o.val - 32) = 32 + o.val := by omega
theorem d2 (o : Fin 32) : 64 + (64 + o.val - 32 - 32) = 64 + o.val := by omega
theorem d3 (o : Fin 32) : 96 + (96 + o.val - 32 - 32 - 32) = 96 + o.val := by omega

/-- A row against a concatenation of four pieces of 32 rows, each piece scaled by its own coefficient. -/
theorem ladder (f k : Fin 128 → EReal) (g0 g1 g2 g3 : EReal) :
    (∑ x : Fin 128, f x * (if h : x.val < 32 then k x * g0
      else if h : x.val - 32 < 32 then k ⟨32 + (x.val - 32), by omega⟩ * g1
      else if h : x.val - 32 - 32 < 32 then k ⟨64 + (x.val - 32 - 32), by omega⟩ * g2
      else k ⟨96 + (x.val - 32 - 32 - 32), by omega⟩ * g3))
    = Spec.slot (fun o => f ⟨32 * (0 : Fin 4).val + o.val, by omega⟩) (fun o => k ⟨32 * (0 : Fin 4).val + o.val, by omega⟩) g0
      + Spec.slot (fun o => f ⟨32 * (1 : Fin 4).val + o.val, by omega⟩) (fun o => k ⟨32 * (1 : Fin 4).val + o.val, by omega⟩) g1
      + Spec.slot (fun o => f ⟨32 * (2 : Fin 4).val + o.val, by omega⟩) (fun o => k ⟨32 * (2 : Fin 4).val + o.val, by omega⟩) g2
      + Spec.slot (fun o => f ⟨32 * (3 : Fin 4).val + o.val, by omega⟩) (fun o => k ⟨32 * (3 : Fin 4).val + o.val, by omega⟩) g3 := by
  rw [quarters]
  simp only [c0, c1', c2', c3, c4, c5, c6, c7, c8, d1, d2, d3, dif_pos, dif_neg, not_false_eq_true]
  simp only [Spec.slot, Fin.val_zero, Fin.val_one, Fin.val_two, Nat.mul_zero, Nat.zero_add, Nat.mul_one,
    show ((3 : Fin 4).val) = 3 from rfl, Nat.reduceMul]

/-- The first block. -/
theorem block0 : k0_pay108 (F := Ideal) v23 acc v34 c1 w c2 f (ix2 q b)
    = acc (ix2 q b) + block (fun e => v34 (ix2 e b)) c1 w c2 f q (v23 (ix2 0 b)) (v23 (ix2 1 b)) (v23 (ix2 2 b)) (v23 (ix2 3 b)) := by
  pointwise [k0_pay108]
  exact congrArg (acc (ix2 q b) + ·) (ladder (fun x => f (ix2 q x)) _ _ _ _ _)

/-- The second block. -/
theorem block1 : k0_pay110 (F := Ideal) v23 acc (k0_pay109 v25 c1 w) c2 f (ix2 q b)
    = acc (ix2 q b) + block (fun e => v25 (ix2 ⟨256 + e.val, by omega⟩ b)) c1 w c2 f q
        (v23 (ix2 4 b)) (v23 (ix2 5 b)) (v23 (ix2 6 b)) (v23 (ix2 7 b)) := by
  pointwise [k0_pay110, k0_pay109]
  exact congrArg (acc (ix2 q b) + ·) (ladder (fun x => f (ix2 q x)) _ _ _ _ _)

/-- The third block. -/
theorem block2 : k0_pay114 (F := Ideal) v23 acc (k0_pay111 v25 c1 w c2) (k0_pay112 v23 v25 c1 w c2) (k0_pay113 v25 c1 w c2) f (ix2 q b)
    = acc (ix2 q b) + block (fun e => v25 (ix2 ⟨512 + e.val, by omega⟩ b)) c1 w c2 f q
        (v23 (ix2 8 b)) (v23 (ix2 9 b)) (v23 (ix2 10 b)) (v23 (ix2 11 b)) := by
  pointwise [k0_pay114, k0_pay111, k0_pay112, k0_pay113]
  exact congrArg (acc (ix2 q b) + ·) (ladder (fun x => f (ix2 q x)) _ _ _ _ _)

/-- The fourth block and the last, which holds two groups only, and the cut-off at zero. -/
theorem block34 (d1' : FVec Ideal S256x1 .f32) (w' : FVec Ideal S1x128x256 .f32) (d2' : FVec Ideal S128x1 .f32)
    (f' : FVec Ideal S64x64 .f32) :
    k0_pay1 (F := Ideal) v23 v25 acc (k0_pay115 v23 v25 c1 w c2) f d1' w' d2' f' (ix2 q b)
    = max (acc (ix2 q b) + block (fun e => v25 (ix2 ⟨768 + e.val, by omega⟩ b)) c1 w c2 f q
          (v23 (ix2 12 b)) (v23 (ix2 13 b)) (v23 (ix2 14 b)) (v23 (ix2 15 b))
        + (Spec.slot (fun o => f' (ix2 q ⟨o.val, by omega⟩))
            (fun o => row (fun e => v25 (ix2 ⟨1024 + e.val, by omega⟩ b)) d1' w' d2' ⟨o.val, by omega⟩) (v23 (ix2 16 b))
          + Spec.slot (fun o => f' (ix2 q ⟨32 + o.val, by omega⟩))
            (fun o => row (fun e => v25 (ix2 ⟨1024 + e.val, by omega⟩ b)) d1' w' d2' ⟨32 + o.val, by omega⟩) (v23 (ix2 17 b)))) 0 := by
  pointwise [k0_pay1, k0_pay115]
  exact congrArg (fun z => max (acc (ix2 q b) + z + _) 0) (ladder (fun x => f (ix2 q x)) _ _ _ _ _)

end Cert.KernelIdeal.Pay

end
-- ==== Proof.Prep.lean ====
module
public import proofs.«01_k».proof.Proof.Gen.KernelIdeal.Frame
public import Idealize.ShloMosaic.Lib.Pipeline.ValueKit
public import Idealize.ShloMosaic.Lib.Pipeline.ReadBack
public import Idealize.ShloMosaic.Lib.Pointwise
@[expose] public section
set_option maxRecDepth 16384
noncomputable section

/-! What the first grid point leaves in the buffers that the kernel carries from point to point: the weights of the
eighteen groups, repacked over a zero fill, and the two products with the final weights. -/

namespace Cert.KernelIdeal.Prep
open Idealize.ShloMosaic Idealize.ShloMosaic.TcCoe Idealize.SL.Sem
open Cert.KernelIdeal Cert.KernelIdeal.Gen

/-- Stores over an earlier one: where one of the later stores holds an index and every later store that holds it has
    the value `v` there, the buffer holds `v`, whatever the first store was. -/
theorem canon_over {Val : EltTy → Type} {S : Shape} {e : EltTy} [∀ e, Nonempty (Val e)] (L : List (View.Piece Val S e))
    (y : S.Idx) (v : Val e) (hc : ∃ p ∈ L.dropLast, y ∈ p.1.set) (hv : View.AllAt L.dropLast y v) : View.canon L y = v := by
  induction L with
  | nil => obtain ⟨p, hp, _⟩ := hc; exact absurd hp List.not_mem_nil
  | cons p A ih =>
    cases A with
    | nil => obtain ⟨p, hp, _⟩ := hc; exact absurd hp List.not_mem_nil
    | cons q B =>
      rw [List.dropLast_cons₂] at hc hv
      by_cases hm : y ∈ p.1.set
      · obtain ⟨x, rfl⟩ := p.1.exists_idx_of_mem hm
        rw [show p.1.idx x = p.1.emb x from rfl, View.canon_cons_emb]
        exact hv p List.mem_cons_self x rfl
      · rw [View.canon_cons_of_not_mem _ _ hm]
        refine ih ?_ fun r hr => hv r (List.mem_cons_of_mem _ hr)
        obtain ⟨r, hr, hy⟩ := hc
        rcases List.mem_cons.mp hr with rfl | hr
        · exact absurd hy hm
        · exact ⟨r, hr, hy⟩

theorem ix2_0 {a b : ℕ} (i : Fin a) (j : Fin b) : (ix2 i j) 0 = i := rfl
theorem ix2_1 {a b : ℕ} (i : Fin a) (j : Fin b) : (ix2 i j) 1 = j := rfl
theorem ix3_0 {a b c : ℕ} (i : Fin a) (j : Fin b) (k : Fin c) : (ix3 i j k) 0 = i := rfl
theorem ix3_1 {a b c : ℕ} (i : Fin a) (j : Fin b) (k : Fin c) : (ix3 i j k) 1 = j := rfl
theorem ix3_2 {a b c : ℕ} (i : Fin a) (j : Fin b) (k : Fin c) : (ix3 i j k) 2 = k := rfl

/-- An array read at equal coordinates. -/
theorem at2 {α : Type} {a b : ℕ} (A : (⟨2, ![a, b]⟩ : Shape).Idx → α) {i i' : Fin a} {j j' : Fin b}
    (hi : i.val = i'.val) (hj : j.val = j'.val) : A (ix2 i j) = A (ix2 i' j') := by
  rw [Fin.ext hi, Fin.ext hj]

/-- An array read at equal coordinates. -/
theorem at3 {α : Type} {a b c : ℕ} (A : (⟨3, ![a, b, c]⟩ : Shape).Idx → α) {i i' : Fin a} {j j' : Fin b} {k k' : Fin c}
    (hi : i.val = i'.val) (hj : j.val = j'.val) (hk : k.val = k'.val) : A (ix3 i j k) = A (ix3 i' j' k') := by
  rw [Fin.ext hi, Fin.ext hj, Fin.ext hk]

theorem forall_axes3 {P : Fin 3 → Prop} : (∀ a, P a) ↔ P 0 ∧ P 1 ∧ P 2 := by
  constructor
  · intro hP; exact ⟨hP 0, hP 1, hP 2⟩
  · rintro ⟨h0, h1, h2⟩ a
    fin_cases a <;> assumption

/-- A load of a whole buffer reads what the stores left. -/
theorem readCov_all {Val : EltTy → Type} {S : Shape} {e : EltTy} [∀ e, Nonempty (Val e)] {sg : RefSig} {κ : Kind} {sp : Space}
    (v : View sg κ sp S e) (L : List (View.Piece Val S e)) {off : Fin S.rank → ℕ} (inb : ∀ a, off a + S.size a ≤ S.size a)
    (h : ∀ a, off a = 0) : v.readCov L (Rect.unit off S.size inb).toLoadRect = View.canon L := by
  obtain rfl : off = fun _ => 0 := funext h
  rw [View.readCov_eq_canon']
  exact View.ld_unit_zero rfl inb (View.canon L)

variable (m : (ℓ : Loc nD τ sig) → Buf (Elt Ideal) ℓ) (c : Dev nD) (t : Fin cfg0.N) (h : t.val % 4 = 0)

/-! The blocks that a grid point finds in its windows. -/

abbrev bx : FVec Ideal S64x4096 .f32 := iblk m c 0 t
abbrev bgv : FVec Ideal S18x4096 .f32 := iblk m c 1 t
abbrev bw1 : FVec Ideal S18x64x64 .f32 := iblk m c 2 t
abbrev bb1 : FVec Ideal S18x64 .f32 := iblk m c 3 t
abbrev bw2 : FVec Ideal S18x32x64 .f32 := iblk m c 4 t
abbrev bb2 : FVec Ideal S18x32 .f32 := iblk m c 5 t
abbrev bw3 : FVec Ideal S18x32x32 .f32 := iblk m c 6 t
abbrev bb3 : FVec Ideal S18x32 .f32 := iblk m c 7 t
abbrev bwa : FVec Ideal S18x64 .f32 := iblk m c 8 t
abbrev bba : FVec Ideal S18x1 .f32 := iblk m c 9 t
abbrev bwg : FVec Ideal S64x96 .f32 := iblk m c 10 t
abbrev bbg : FVec Ideal S64x1 .f32 := iblk m c 11 t

include h

set_option maxHeartbeats 2000000 in
/-- Rows 64 g + e of the stacked matrix: column e of the first layer of group g. -/
theorem wbig_group (g : Fin 18) (e d : Fin 64) : (outsAt0 m c t.val t.isLt).2.1 (ix2 ⟨64 * g.val + e.val, by omega⟩ d)
    = bw1 m c t (ix3 g d e) := by
  rw [outsAt0_A m c t h]; frame_out
  refine canon_over _ _ _ ?_ ?_
  · dsimp only [List.dropLast]
    simp only [List.mem_cons, List.not_mem_nil, or_false, exists_eq_or_imp, exists_eq_left, Rect.mem_set_unit,
      Fin.forall_fin_two, ix2_0, ix2_1, Matrix.cons_val]
    omega
  · dsimp only [List.dropLast]
    repeat' (first | exact View.allAt_nil _ _ | refine View.allAt_cons_unit _ _ _ _ _ ?_ ?_)
    all_goals tile_intro x k
    all_goals simp only [ix2_0, ix2_1] at k0 k1
    all_goals try (exfalso; omega)
    all_goals pointwise [k0_pay7, k0_pay8, k0_pay9, k0_pay10, k0_pay11, k0_pay12, k0_pay13, k0_pay99]
    all_goals exact at3 _ (by (try dsimp only); omega) (by (try dsimp only); omega) (by (try dsimp only); omega)

set_option maxHeartbeats 2000000 in
/-- The last 64 rows of the stacked matrix: the final weights of the raw features. -/
theorem wbig_out (q d : Fin 64) : (outsAt0 m c t.val t.isLt).2.1 (ix2 ⟨1280 + q.val, by omega⟩ d)
    = bwg m c t (ix2 q ⟨d.val, by omega⟩) := by
  rw [outsAt0_A m c t h]; frame_out
  refine canon_over _ _ _ ?_ ?_
  · dsimp only [List.dropLast]
    simp only [List.mem_cons, List.not_mem_nil, or_false, exists_eq_or_imp, exists_eq_left, Rect.mem_set_unit,
      Fin.forall_fin_two, ix2_0, ix2_1, Matrix.cons_val]
    omega
  · dsimp only [List.dropLast]
    repeat' (first | exact View.allAt_nil _ _ | refine View.allAt_cons_unit _ _ _ _ _ ?_ ?_)
    all_goals tile_intro x k
    all_goals simp only [ix2_0, ix2_1] at k0 k1
    all_goals try (exfalso; omega)
    all_goals pointwise [k0_pay7, k0_pay8, k0_pay9, k0_pay10, k0_pay11, k0_pay12, k0_pay13, k0_pay99]
    all_goals exact at2 _ (by (try dsimp only); omega) (by (try dsimp only); omega)

set_option maxHeartbeats 2000000 in
/-- The stacked bias of the first layer. -/
theorem bias1 (g : Fin 18) (e : Fin 64) : (outsAt0 m c t.val t.isLt).2.2.1 (ix2 ⟨64 * g.val + e.val, by omega⟩ 0)
    = bb1 m c t (ix2 g e) := by
  rw [outsAt0_A m c t h]; frame_out
  refine canon_over _ _ _ ?_ ?_
  · dsimp only [List.dropLast]
    simp only [List.mem_cons, List.not_mem_nil, or_false, exists_eq_or_imp, exists_eq_left, Rect.mem_set_unit,
      Fin.forall_fin_two, ix2_0, ix2_1, Matrix.cons_val]
    omega
  · dsimp only [List.dropLast]
    repeat' (first | exact View.allAt_nil _ _ | refine View.allAt_cons_unit _ _ _ _ _ ?_ ?_)
    all_goals tile_intro x k
    all_goals simp only [ix2_0, ix2_1] at k0 k1
    all_goals try (exfalso; omega)
    all_goals pointwise [k0_pay7, k0_pay8, k0_pay9, k0_pay10, k0_pay11, k0_pay12, k0_pay13, k0_pay99]
    all_goals exact at2 _ (by (try dsimp only); omega) (by (try dsimp only); omega)

set_option maxHeartbeats 2000000 in
/-- The stacked bias of the second layer. -/
theorem bias2 (g : Fin 18) (o : Fin 32) : (outsAt0 m c t.val t.isLt).2.2.2.2.1 (ix2 ⟨32 * g.val + o.val, by omega⟩ 0)
    = bb2 m c t (ix2 g o) := by
  rw [outsAt0_A m c t h]; frame_out
  refine canon_over _ _ _ ?_ ?_
  · dsimp only [List.dropLast]
    simp only [List.mem_cons, List.not_mem_nil, or_false, exists_eq_or_imp, exists_eq_left, Rect.mem_set_unit,
      Fin.forall_fin_two, ix2_0, ix2_1, Matrix.cons_val]
    omega
  · dsimp only [List.dropLast]
    repeat' (first | exact View.allAt_nil _ _ | refine View.allAt_cons_unit _ _ _ _ _ ?_ ?_)
    all_goals tile_intro x k
    all_goals simp only [ix2_0, ix2_1] at k0 k1
    all_goals try (exfalso; omega)
    all_goals pointwise [k0_pay7, k0_pay8, k0_pay9, k0_pay10, k0_pay11, k0_pay12, k0_pay13, k0_pay99]
    all_goals exact at2 _ (by (try dsimp only); omega) (by (try dsimp only); omega)

set_option maxHeartbeats 2000000 in
/-- The second layer of a block, on its diagonal: group 4 t + i. -/
theorem w2_on (t' : Fin 5) (i : Fin 4) (g : Fin 18) (hg : g.val = 4 * t'.val + i.val) (o : Fin 32) (e : Fin 64) : (outsAt0 m c t.val t.isLt).2.2.2.1 (ix3 t' ⟨32 * i.val + o.val, by omega⟩ ⟨64 * i.val + e.val, by omega⟩)
    = bw2 m c t (ix3 g o e) := by
  rw [outsAt0_A m c t h]; frame_out
  refine canon_over _ _ _ ?_ ?_
  · dsimp only [List.dropLast]
    simp only [List.mem_cons, List.not_mem_nil, or_false, exists_eq_or_imp, exists_eq_left, Rect.mem_set_unit,
      forall_axes3, ix3_0, ix3_1, ix3_2, Matrix.cons_val]
    obtain ⟨t', ht'⟩ := t'
    obtain ⟨i, hi⟩ := i
    simp only at hg ⊢
    interval_cases t' <;> interval_cases i <;> (repeat (first | (refine Or.inl ?_; omega) | refine Or.inr ?_)) <;> omega
  · dsimp only [List.dropLast]
    repeat' (first | exact View.allAt_nil _ _ | refine View.allAt_cons_unit _ _ _ _ _ ?_ ?_)
    all_goals tile_intro x k
    all_goals simp only [ix3_0, ix3_1, ix3_2] at k0 k1 k2
    all_goals try (exfalso; omega)
    all_goals pointwise [k0_pay7, k0_pay8, k0_pay9, k0_pay10, k0_pay11, k0_pay12, k0_pay13, k0_pay99]
    all_goals exact at3 _ (by (try dsimp only); omega) (by (try dsimp only); omega) (by (try dsimp only); omega)

set_option maxHeartbeats 2000000 in
/-- The second layer of a block, off its diagonal. -/
theorem w2_off (t' : Fin 5) (i : Fin 4) (o : Fin 32) (b : Fin 256) (hb : b.val / 64 ≠ i.val) :
    (outsAt0 m c t.val t.isLt).2.2.2.1 (ix3 t' ⟨32 * i.val + o.val, by omega⟩ b) = (0 : EReal) := by
  rw [outsAt0_A m c t h]; frame_out
  refine View.canon_eq_of_allAt _ _ _ ?_ ?_
  · simp only [List.mem_cons, List.not_mem_nil, or_false, exists_eq_or_imp, exists_eq_left, Rect.mem_set_unit,
      forall_axes3, ix3_0, ix3_1, ix3_2, Matrix.cons_val]
    repeat refine Or.inr ?_
    omega
  · repeat' (first | exact View.allAt_nil _ _ | refine View.allAt_cons_unit _ _ _ _ _ ?_ ?_)
    all_goals tile_intro x k
    all_goals simp only [ix3_0, ix3_1, ix3_2] at k0 k1 k2
    all_goals try (exfalso; omega)
    all_goals pointwise [k0_pay4]

set_option maxHeartbeats 2000000 in
/-- The folded weights: third-layer weights against the final weights of the refined features. -/
theorem fold_w (q : Fin 64) (g : Fin 18) (o : Fin 32) : (outsAt0 m c t.val t.isLt).2.2.2.2.2.1 (ix2 q ⟨32 * g.val + o.val, by omega⟩)
    = ∑ k : Fin 32, bwg m c t (ix2 q ⟨64 + k.val, by omega⟩) * bw3 m c t (ix3 g o k) := by
  rw [outsAt0_A m c t h]; frame_out
  pointwise [k0_pay101, k0_pay100]
  refine Finset.sum_congr rfl fun x _ => congrArg (bwg m c t _ * ·) ?_
  refine (congrFun (readCov_all _ _ _ (by decide)) _).trans ?_
  refine canon_over _ _ _ ?_ ?_
  · dsimp only [List.dropLast]
    simp only [List.mem_cons, List.not_mem_nil, or_false, exists_eq_or_imp, exists_eq_left, Rect.mem_set_unit,
      Fin.forall_fin_two, ix2_0, ix2_1, Matrix.cons_val]
    omega
  · dsimp only [List.dropLast]
    repeat' (first | exact View.allAt_nil _ _ | refine View.allAt_cons_unit _ _ _ _ _ ?_ ?_)
    all_goals tile_intro x k
    all_goals simp only [ix2_0, ix2_1] at k0 k1
    all_goals try (exfalso; omega)
    all_goals pointwise
    all_goals exact at3 _ (by (try dsimp only); omega) (by (try dsimp only); omega) (by (try dsimp only); omega)

/-- The folded biases: third-layer biases against the final weights of the refined features. -/
theorem fold_b (q : Fin 64) (g : Fin 18) : (outsAt0 m c t.val t.isLt).2.2.2.2.2.2 (ix2 q g)
    = ∑ k : Fin 32, bwg m c t (ix2 q ⟨64 + k.val, by omega⟩) * bb3 m c t (ix2 g k) := by
  rw [outsAt0_A m c t h]; frame_out
  pointwise [k0_pay102, k0_pay100]

end Cert.KernelIdeal.Prep
end
-- ==== Proof.Step.lean ====
module
public import proofs.«01_k».proof.Proof.Pay
public import proofs.«01_k».proof.Proof.Prep
@[expose] public section
set_option maxRecDepth 16384
noncomputable section

/-! What one grid point leaves in its block of the output, at the first point (which prepares the carried buffers) and at
the later ones (which find them) alike: one expression in the point's blocks and the carried buffers. -/

namespace Cert.KernelIdeal.Step
open Idealize.ShloMosaic Idealize.ShloMosaic.TcCoe Idealize.SL.Sem
open Cert.KernelIdeal Cert.KernelIdeal.Gen

/-- A rectangle of a rank-two buffer, by its corner. -/
def cut2 {a b : ℕ} (n k : ℕ) (X : FVec Ideal ⟨2, ![a, b]⟩ .f32) (o₁ o₂ : ℕ) (h₁ : o₁ + n ≤ a) (h₂ : o₂ + k ≤ b) :
    FVec Ideal ⟨2, ![n, k]⟩ .f32 := fun j =>
  X (ix2 ⟨o₁ + (j 0).val, Nat.lt_of_lt_of_le (Nat.add_lt_add_left (j 0).isLt o₁) h₁⟩
    ⟨o₂ + (j 1).val, Nat.lt_of_lt_of_le (Nat.add_lt_add_left (j 1).isLt o₂) h₂⟩)

/-- A slab of a rank-three buffer, by its number. -/
def cut3 {a b d : ℕ} (X : FVec Ideal ⟨3, ![a, b, d]⟩ .f32) (o : ℕ) (h : o < a) : FVec Ideal ⟨3, ![1, b, d]⟩ .f32 := fun j =>
  X (ix3 ⟨o, h⟩ (j 1) (j 2))

/-- A load of a rectangle is that rectangle. -/
theorem ld_cut2 {a b n k : ℕ} (X : FVec Ideal ⟨2, ![a, b]⟩ .f32) (o₁ o₂ : ℕ) (h₁ : o₁ + n ≤ a) (h₂ : o₂ + k ≤ b)
    (inb : ∀ i, ![o₁, o₂] i + ![n, k] i ≤ (⟨2, ![a, b]⟩ : Shape).size i) :
    (fun x => X ((Rect.unit ![o₁, o₂] ![n, k] inb).idx x)) = cut2 n k X o₁ o₂ h₁ h₂ := by
  funext x
  refine congrArg X (funext fun i => Fin.ext ?_)
  match i with
  | 0 => exact congrArg (o₁ + ·) (Nat.one_mul (x 0).val)
  | 1 => exact congrArg (o₂ + ·) (Nat.one_mul (x 1).val)

/-- A load of a slab is that slab. -/
theorem ld_cut3 {a b d : ℕ} (X : FVec Ideal ⟨3, ![a, b, d]⟩ .f32) (o : ℕ) (h : o < a)
    (inb : ∀ i, ![o, 0, 0] i + ![1, b, d] i ≤ (⟨3, ![a, b, d]⟩ : Shape).size i) :
    (fun x => X ((Rect.unit ![o, 0, 0] ![1, b, d] inb).idx x)) = cut3 X o h := by
  funext x
  refine congrArg X (funext fun i => Fin.ext ?_)
  match i with
  | 0 =>
    have hx : (x 0).val < 1 := (x 0).isLt
    show o + 1 * (x 0).val = o
    omega
  | 1 => exact (Nat.zero_add _).trans (Nat.one_mul (x 1).val)
  | 2 => exact (Nat.zero_add _).trans (Nat.one_mul (x 2).val)

/-- The output block of a point, from its blocks and the carried buffers. -/
def out (x : FVec Ideal S64x4096 .f32) (gv : FVec Ideal S18x4096 .f32) (wa : FVec Ideal S18x64 .f32) (ba : FVec Ideal S18x1 .f32)
    (bg : FVec Ideal S64x1 .f32) (s0 : FVec Ideal S1344x64 .f32) (s1 : FVec Ideal S1280x1 .f32) (s2 : FVec Ideal S5x128x256 .f32)
    (s3 : FVec Ideal S640x1 .f32) (s5 : FVec Ideal S64x640 .f32) (s6 : FVec Ideal S64x18 .f32) : FVec Ideal S64x4096 .f32 :=
  k0_pay1 (k0_pay104 x gv wa ba) (k0_pay105 x s0)
    (k0_pay114 (k0_pay104 x gv wa ba)
      (k0_pay110 (k0_pay104 x gv wa ba)
        (k0_pay108 (k0_pay104 x gv wa ba) (k0_pay106 x gv wa ba s0 s6 bg) (k0_pay107 x s0)
          (cut2 256 1 s1 0 0 (by decide) (by decide)) (cut3 s2 0 (by decide))
          (cut2 128 1 s3 0 0 (by decide) (by decide)) (cut2 64 128 s5 0 0 (by decide) (by decide)))
        (k0_pay109 (k0_pay105 x s0) (cut2 256 1 s1 256 0 (by decide) (by decide)) (cut3 s2 1 (by decide)))
        (cut2 128 1 s3 128 0 (by decide) (by decide)) (cut2 64 128 s5 0 128 (by decide) (by decide)))
      (k0_pay111 (k0_pay105 x s0) (cut2 256 1 s1 512 0 (by decide) (by decide)) (cut3 s2 2 (by decide))
        (cut2 128 1 s3 256 0 (by decide) (by decide)))
      (k0_pay112 (k0_pay104 x gv wa ba) (k0_pay105 x s0) (cut2 256 1 s1 512 0 (by decide) (by decide))
        (cut3 s2 2 (by decide)) (cut2 128 1 s3 256 0 (by decide) (by decide)))
      (k0_pay113 (k0_pay105 x s0) (cut2 256 1 s1 512 0 (by decide) (by decide)) (cut3 s2 2 (by decide))
        (cut2 128 1 s3 256 0 (by decide) (by decide)))
      (cut2 64 128 s5 0 256 (by decide) (by decide)))
    (k0_pay115 (k0_pay104 x gv wa ba) (k0_pay105 x s0) (cut2 256 1 s1 768 0 (by decide) (by decide))
      (cut3 s2 3 (by decide)) (cut2 128 1 s3 384 0 (by decide) (by decide)))
    (cut2 64 128 s5 0 384 (by decide) (by decide))
    (cut2 256 1 s1 1024 0 (by decide) (by decide)) (cut3 s2 4 (by decide))
    (cut2 128 1 s3 512 0 (by decide) (by decide)) (cut2 64 64 s5 0 512 (by decide) (by decide))

variable (m : (ℓ : Loc nD τ sig) → Buf (Elt Ideal) ℓ) (c : Dev nD) (t : Fin cfg0.N)

open Prep in
/-- The first point. -/
theorem first (h : t.val % 4 = 0) : (outsAt0 m c t.val t.isLt).1
    = out (bx m c t) (bgv m c t) (bwa m c t) (bba m c t) (bbg m c t) (outsAt0 m c t.val t.isLt).2.1 (outsAt0 m c t.val t.isLt).2.2.1
      (outsAt0 m c t.val t.isLt).2.2.2.1 (outsAt0 m c t.val t.isLt).2.2.2.2.1 (outsAt0 m c t.val t.isLt).2.2.2.2.2.1
      (outsAt0 m c t.val t.isLt).2.2.2.2.2.2 := by
  have e0 : (outsAt0 m c t.val t.isLt).2.1 = _ := congrArg (fun z => z.2.1) (outsAt0_A m c t h)
  have e1 : (outsAt0 m c t.val t.isLt).2.2.1 = _ := congrArg (fun z => z.2.2.1) (outsAt0_A m c t h)
  have e2 : (outsAt0 m c t.val t.isLt).2.2.2.1 = _ := congrArg (fun z => z.2.2.2.1) (outsAt0_A m c t h)
  have e3 : (outsAt0 m c t.val t.isLt).2.2.2.2.1 = _ := congrArg (fun z => z.2.2.2.2.1) (outsAt0_A m c t h)
  have e5 : (outsAt0 m c t.val t.isLt).2.2.2.2.2.1 = _ := congrArg (fun z => z.2.2.2.2.2.1) (outsAt0_A m c t h)
  have e6 : (outsAt0 m c t.val t.isLt).2.2.2.2.2.2 = _ := congrArg (fun z => z.2.2.2.2.2.2) (outsAt0_A m c t h)
  frame_out at e0
  frame_out at e1
  frame_out at e2
  frame_out at e3
  frame_out at e5
  frame_out at e6
  have e : (outsAt0 m c t.val t.isLt).1 = _ := congrArg (fun z => z.1) (outsAt0_A m c t h)
  frame_out at e
  simp (disch := decide) only [View.readCov_eq_canon', View.canon_cons_unit_lit'] at e e5 e6
  simp only [← e0, ← e1, ← e2, ← e3] at e
  simp only [← e5, ← e6] at e
  rw [e]
  clear e e0 e1 e2 e3 e5 e6
  unfold out
  generalize (outsAt0 m c t.val t.isLt).2.1 = s0
  generalize (outsAt0 m c t.val t.isLt).2.2.1 = s1
  generalize (outsAt0 m c t.val t.isLt).2.2.2.1 = s2
  generalize (outsAt0 m c t.val t.isLt).2.2.2.2.1 = s3
  generalize (outsAt0 m c t.val t.isLt).2.2.2.2.2.1 = s5
  generalize (outsAt0 m c t.val t.isLt).2.2.2.2.2.2 = s6
  congr <;> first | exact ld_cut2 _ _ _ _ _ _ | exact ld_cut3 _ _ _ _ | exact View.ld_unit_zero (by funext i; fin_cases i <;> rfl) _ _

open Prep in
/-- A later point. -/
theorem later (h : ¬t.val % 4 = 0) : (outsAt0 m c t.val t.isLt).1
    = out (bx m c t) (bgv m c t) (bwa m c t) (bba m c t) (bbg m c t) (outsAt0 m c t.val t.isLt).2.1 (outsAt0 m c t.val t.isLt).2.2.1
      (outsAt0 m c t.val t.isLt).2.2.2.1 (outsAt0 m c t.val t.isLt).2.2.2.2.1 (outsAt0 m c t.val t.isLt).2.2.2.2.2.1
      (outsAt0 m c t.val t.isLt).2.2.2.2.2.2 := by
  rw [outsAt0_B m c t h]; frame_out
  simp only [read_unread_whole, sout0_B_0, sout0_B_1, sout0_B_2, sout0_B_3, sout0_B_5, sout0_B_6]
  unfold out
  congr <;> first | exact ld_cut2 _ _ _ _ _ _ | exact ld_cut3 _ _ _ _

end Cert.KernelIdeal.Step
end
-- ==== Proof.Read.lean ====
module
public import proofs.«01_k».proof.Proof.Step
@[expose] public section
set_option maxRecDepth 16384
noncomputable section

/-! The output block of a point, read at one element, when the carried buffers hold the re-laid weights. -/

namespace Cert.KernelIdeal.Read
open Idealize.ShloMosaic Idealize.ShloMosaic.TcCoe Idealize.SL.Sem
open Cert.KernelIdeal Cert.KernelIdeal.Gen Cert.KernelIdeal.Step

/-- What the carried buffers hold: the first layers stacked over the final weights, the biases stacked, the second layers
    block-diagonal by four groups, and the third layers folded into the final weights. -/
structure Carried (w1 : FVec Ideal S18x64x64 .f32) (b1 : FVec Ideal S18x64 .f32) (w2 : FVec Ideal S18x32x64 .f32)
    (b2 : FVec Ideal S18x32 .f32) (w3 : FVec Ideal S18x32x32 .f32) (b3 : FVec Ideal S18x32 .f32) (wg : FVec Ideal S64x96 .f32)
    (s0 : FVec Ideal S1344x64 .f32) (s1 : FVec Ideal S1280x1 .f32) (s2 : FVec Ideal S5x128x256 .f32)
    (s3 : FVec Ideal S640x1 .f32) (s5 : FVec Ideal S64x640 .f32) (s6 : FVec Ideal S64x18 .f32) : Prop where
  first : ∀ (g : Fin 18) (e d : Fin 64), s0 (ix2 ⟨64 * g.val + e.val, by omega⟩ d) = w1 (ix3 g d e)
  last : ∀ q d : Fin 64, s0 (ix2 ⟨1280 + q.val, by omega⟩ d) = wg (ix2 q ⟨d.val, by omega⟩)
  bias1 : ∀ (g : Fin 18) (e : Fin 64), s1 (ix2 ⟨64 * g.val + e.val, by omega⟩ 0) = b1 (ix2 g e)
  bias2 : ∀ (g : Fin 18) (o : Fin 32), s3 (ix2 ⟨32 * g.val + o.val, by omega⟩ 0) = b2 (ix2 g o)
  on : ∀ (t' : Fin 5) (i : Fin 4) (g : Fin 18), g.val = 4 * t'.val + i.val → ∀ (o : Fin 32) (e : Fin 64),
    s2 (ix3 t' ⟨32 * i.val + o.val, by omega⟩ ⟨64 * i.val + e.val, by omega⟩) = w2 (ix3 g o e)
  off : ∀ (t' : Fin 5) (i : Fin 4) (o : Fin 32) (b : Fin 256), b.val / 64 ≠ i.val →
    s2 (ix3 t' ⟨32 * i.val + o.val, by omega⟩ b) = (0 : EReal)
  foldw : ∀ (q : Fin 64) (g : Fin 18) (o : Fin 32), s5 (ix2 q ⟨32 * g.val + o.val, by omega⟩)
    = ∑ k : Fin 32, wg (ix2 q ⟨64 + k.val, by omega⟩) * w3 (ix3 g o k)
  foldb : ∀ (q : Fin 64) (g : Fin 18), s6 (ix2 q g) = ∑ k : Fin 32, wg (ix2 q ⟨64 + k.val, by omega⟩) * b3 (ix2 g k)

variable {w1 : FVec Ideal S18x64x64 .f32} {b1 : FVec Ideal S18x64 .f32} {w2 : FVec Ideal S18x32x64 .f32}
    {b2 : FVec Ideal S18x32 .f32} {w3 : FVec Ideal S18x32x32 .f32} {b3 : FVec Ideal S18x32 .f32} {wg : FVec Ideal S64x96 .f32}
    {s0 : FVec Ideal S1344x64 .f32} {s1 : FVec Ideal S1280x1 .f32} {s2 : FVec Ideal S5x128x256 .f32}
    {s3 : FVec Ideal S640x1 .f32} {s5 : FVec Ideal S64x640 .f32} {s6 : FVec Ideal S64x18 .f32}
    (C : Carried w1 b1 w2 b2 w3 b3 wg s0 s1 s2 s3 s5 s6)
    (x : FVec Ideal S64x4096 .f32) (gv : FVec Ideal S18x4096 .f32) (wa : FVec Ideal S18x64 .f32) (ba : FVec Ideal S18x1 .f32)
    (bg : FVec Ideal S64x1 .f32)

/-- The second hidden layer of group `g` at column `b` of the block. -/
abbrev hid (w1 : FVec Ideal S18x64x64 .f32) (b1 : FVec Ideal S18x64 .f32) (w2 : FVec Ideal S18x32x64 .f32)
    (b2 : FVec Ideal S18x32 .f32) (x : FVec Ideal S64x4096 .f32) (b : Fin 4096) (g : Fin 18) : Fin 32 → EReal :=
  Spec.hid2 (Spec.hid1 (fun d => x (ix2 d b)) (fun d e => w1 (ix3 g d e)) fun e => b1 (ix2 g e))
    (fun e o => w2 (ix3 g o e)) fun o => b2 (ix2 g o)

/-- The coefficient of group `g` at column `b` of the block. -/
abbrev cf (x : FVec Ideal S64x4096 .f32) (gv : FVec Ideal S18x4096 .f32) (wa : FVec Ideal S18x64 .f32)
    (ba : FVec Ideal S18x1 .f32) (b : Fin 4096) (g : Fin 18) : EReal :=
  Spec.soft (Spec.logit (fun d => x (ix2 d b)) (fun d g => wa (ix2 g d)) fun g => ba (ix2 g 0)) g * gv (ix2 g b)

/-- What group `g` adds to row `q`, column `b` of the output. -/
abbrev term (w1 : FVec Ideal S18x64x64 .f32) (b1 : FVec Ideal S18x64 .f32) (w2 : FVec Ideal S18x32x64 .f32)
    (b2 : FVec Ideal S18x32 .f32) (w3 : FVec Ideal S18x32x32 .f32) (wg : FVec Ideal S64x96 .f32)
    (x : FVec Ideal S64x4096 .f32) (q : Fin 64) (b : Fin 4096) (cc : Fin 18 → EReal) (g : Fin 18) : EReal :=
  ∑ o : Fin 32, (∑ k : Fin 32, wg (ix2 q ⟨64 + k.val, by omega⟩) * w3 (ix3 g o k)) * (hid w1 b1 w2 b2 x b g o * cc g)

include C

/-- A row of a block's second layer is the hidden layer of the group that the row belongs to. -/
theorem row_eq (b : Fin 4096) (t : ℕ) (ht : t < 5) (i : Fin 4) (g : Fin 18) (hg : g.val = 4 * t + i.val) (o : Fin 32)
    (o₁ o₃ : ℕ) (ho₁ : o₁ = 256 * t) (ho₃ : o₃ = 128 * t) (h₁ : o₁ + 256 ≤ 1280) (h₁' : 0 + 1 ≤ 1) (h₃ : o₃ + 128 ≤ 640)
    (h₃' : 0 + 1 ≤ 1) (p : Fin 256 → EReal)
    (hp : ∀ e : Fin 256, p e = k0_pay105 (F := Ideal) x s0 (ix2 ⟨o₁ + e.val, by omega⟩ b)) (a : Fin 128) (ha : a.val = 32 * i.val + o.val) :
    Pay.row p (cut2 256 1 s1 o₁ 0 h₁ h₁') (cut3 s2 t ht) (cut2 128 1 s3 o₃ 0 h₃ h₃') a = hid w1 b1 w2 b2 x b g o := by
  have hlt : 32 * i.val + o.val < 128 := by omega
  obtain rfl : a = ⟨32 * i.val + o.val, hlt⟩ := Fin.ext ha
  refine Spec.row2_eq i _ _ _ _ _ o ?_ ?_ ?_ ?_
  · intro e
    split
    · next he =>
      refine Eq.trans ?_ (C.on ⟨t, ht⟩ i g hg o ⟨e.val % 64, Nat.mod_lt _ (by decide)⟩)
      refine Prep.at3 s2 rfl rfl ?_
      show e.val = 64 * i.val + e.val % 64
      omega
    · next he => exact C.off ⟨t, ht⟩ i o e he
  · intro e
    rw [hp, Pay.prod]
    refine Finset.sum_congr rfl fun d _ => congrArg (· * x (ix2 d b)) ?_
    refine Eq.trans (Prep.at2 s0 ?_ rfl) (C.first g e d)
    show o₁ + (64 * i.val + e.val) = 64 * g.val + e.val
    omega
  · intro e
    refine Eq.trans (Prep.at2 s1 ?_ ?_) (C.bias1 g e)
    · show o₁ + (64 * i.val + e.val) = 64 * g.val + e.val
      omega
    · rfl
  · refine Eq.trans (Prep.at2 s3 ?_ ?_) (C.bias2 g o)
    · show o₃ + (32 * i.val + o.val) = 32 * g.val + o.val
      omega
    · rfl

/-- What group `g` adds to an output, from the group's slice of the folded weights and its rows. -/
theorem slot_eq (q : Fin 64) (b : Fin 4096) (g : Fin 18) (F R : Fin 32 → EReal) (c : EReal)
    (hF : ∀ o : Fin 32, ∃ h : 32 * g.val + o.val < 640, F o = s5 (ix2 q ⟨32 * g.val + o.val, h⟩)) (hR : ∀ o, R o = hid w1 b1 w2 b2 x b g o) :
    Spec.slot F R c = ∑ o : Fin 32, (∑ k : Fin 32, wg (ix2 q ⟨64 + k.val, by omega⟩) * w3 (ix3 g o k)) * (hid w1 b1 w2 b2 x b g o * c) := by
  refine Finset.sum_congr rfl fun o _ => ?_
  obtain ⟨h, e⟩ := hF o
  rw [hR, e, C.foldw q g o]

/-- A group of a block. -/
theorem grp_eq (q : Fin 64) (b : Fin 4096) (t : ℕ) (ht : t < 5) (i : Fin 4) (g : Fin 18) (hg : g.val = 4 * t + i.val) (cc : EReal)
    (o₁ o₃ : ℕ) (ho₁ : o₁ = 256 * t) (ho₃ : o₃ = 128 * t) (h₁ : o₁ + 256 ≤ 1280) (h₁' : 0 + 1 ≤ 1) (h₃ : o₃ + 128 ≤ 640)
    (h₃' : 0 + 1 ≤ 1) (h₅ : 0 + 64 ≤ 64) (h₅' : o₃ + 128 ≤ 640) (p : Fin 256 → EReal)
    (hp : ∀ e : Fin 256, p e = k0_pay105 (F := Ideal) x s0 (ix2 ⟨o₁ + e.val, by omega⟩ b)) :
    Pay.grp p (cut2 256 1 s1 o₁ 0 h₁ h₁') (cut3 s2 t ht) (cut2 128 1 s3 o₃ 0 h₃ h₃') (cut2 64 128 s5 0 o₃ h₅ h₅') q i cc
      = ∑ o : Fin 32, (∑ k : Fin 32, wg (ix2 q ⟨64 + k.val, by omega⟩) * w3 (ix3 g o k)) * (hid w1 b1 w2 b2 x b g o * cc) := by
  refine slot_eq C x q b g _ _ cc (fun o => ⟨by omega, Prep.at2 s5 (Nat.zero_add _) ?_⟩)
    (fun o => row_eq C x b t ht i g hg o o₁ o₃ ho₁ ho₃ h₁ h₁' h₃ h₃' p hp _ rfl)
  show o₃ + (32 * i.val + o.val) = 32 * g.val + o.val
  omega

/-- A block of four groups. -/
theorem block_eq (q : Fin 64) (b : Fin 4096) (t : ℕ) (ht : t < 5) (g0 g1 g2 g3 : Fin 18) (hg0 : g0.val = 4 * t + 0)
    (hg1 : g1.val = 4 * t + 1) (hg2 : g2.val = 4 * t + 2) (hg3 : g3.val = 4 * t + 3) (cc : Fin 18 → EReal)
    (o₁ o₃ : ℕ) (ho₁ : o₁ = 256 * t) (ho₃ : o₃ = 128 * t) (h₁ : o₁ + 256 ≤ 1280) (h₁' : 0 + 1 ≤ 1) (h₃ : o₃ + 128 ≤ 640)
    (h₃' : 0 + 1 ≤ 1) (h₅ : 0 + 64 ≤ 64) (h₅' : o₃ + 128 ≤ 640) (p : Fin 256 → EReal)
    (hp : ∀ e : Fin 256, p e = k0_pay105 (F := Ideal) x s0 (ix2 ⟨o₁ + e.val, by omega⟩ b)) :
    Pay.block p (cut2 256 1 s1 o₁ 0 h₁ h₁') (cut3 s2 t ht) (cut2 128 1 s3 o₃ 0 h₃ h₃') (cut2 64 128 s5 0 o₃ h₅ h₅') q
        (cc g0) (cc g1) (cc g2) (cc g3)
      = term w1 b1 w2 b2 w3 wg x q b cc g0 + term w1 b1 w2 b2 w3 wg x q b cc g1
        + term w1 b1 w2 b2 w3 wg x q b cc g2 + term w1 b1 w2 b2 w3 wg x q b cc g3 := by
  unfold Pay.block
  rw [grp_eq C x q b t ht 0 g0 hg0 (cc g0) o₁ o₃ ho₁ ho₃ h₁ h₁' h₃ h₃' h₅ h₅' p hp,
    grp_eq C x q b t ht 1 g1 hg1 (cc g1) o₁ o₃ ho₁ ho₃ h₁ h₁' h₃ h₃' h₅ h₅' p hp,
    grp_eq C x q b t ht 2 g2 hg2 (cc g2) o₁ o₃ ho₁ ho₃ h₁ h₁' h₃ h₃' h₅ h₅' p hp,
    grp_eq C x q b t ht 3 g3 hg3 (cc g3) o₁ o₃ ho₁ ho₃ h₁ h₁' h₃ h₃' h₅ h₅' p hp]

/-- The output block at row `q` and column `b`: the row of `x` against the final weights, the folded biases, the final bias and
    the folded products, clamped at zero. -/
theorem out_read (q : Fin 64) (b : Fin 4096) : out x gv wa ba bg s0 s1 s2 s3 s5 s6 (ix2 q b)
    = max ((((∑ d : Fin 64, wg (ix2 q ⟨d.val, by omega⟩) * x (ix2 d b))
        + Spec.foldedBias (fun g h => b3 (ix2 g h)) (cf x gv wa ba b) (fun h => wg (ix2 q ⟨64 + h.val, by omega⟩)))
        + bg (ix2 q 0))
        + Spec.foldedProd (hid w1 b1 w2 b2 x b) (fun g o h => w3 (ix3 g o h)) (cf x gv wa ba b)
            (fun h => wg (ix2 q ⟨64 + h.val, by omega⟩))) 0 := by
  unfold out
  rw [Pay.block34, Pay.block2, Pay.block1, Pay.block0, Pay.acc0]
  simp only [Pay.coef]
  have hA : k0_pay105 (F := Ideal) x s0 (ix2 ⟨1280 + q.val, by omega⟩ b)
      = ∑ d : Fin 64, wg (ix2 q ⟨d.val, by omega⟩) * x (ix2 d b) := by
    rw [Pay.prod]
    exact Finset.sum_congr rfl fun d _ => congrArg (· * x (ix2 d b)) (C.last q d)
  have hB : (∑ g : Fin 18, s6 (ix2 q g) * cf x gv wa ba b g)
      = Spec.foldedBias (fun g h => b3 (ix2 g h)) (cf x gv wa ba b) (fun h => wg (ix2 q ⟨64 + h.val, by omega⟩)) :=
    Finset.sum_congr rfl fun g _ => congrArg (· * cf x gv wa ba b g) (C.foldb q g)
  rw [hA, hB]
  unfold Spec.foldedProd
  rw [Spec.sum_groups]
  have hp : ∀ o : ℕ, ∀ h : o + 256 ≤ 1280, ∀ e : Fin 256, k0_pay105 (F := Ideal) x s0 (ix2 ⟨o + e.val, by omega⟩ b)
      = k0_pay105 (F := Ideal) x s0 (ix2 ⟨o + e.val, by omega⟩ b) := fun _ _ _ => rfl
  have h0 := block_eq C x q b 0 (by decide) 0 1 2 3 rfl rfl rfl rfl (cf x gv wa ba b) 0 0 rfl rfl (by decide) (by decide)
    (by decide) (by decide) (by decide) (by decide) (fun e => k0_pay107 (F := Ideal) x s0 (ix2 e b))
    (fun e => (Pay.prod0 x s0 b e).trans (Prep.at2 _ (Nat.zero_add _).symm rfl))
  have h1 := block_eq C x q b 1 (by decide) 4 5 6 7 rfl rfl rfl rfl (cf x gv wa ba b) 256 128 rfl rfl (by decide) (by decide)
    (by decide) (by decide) (by decide) (by decide) _ (hp 256 (by decide))
  have h2 := block_eq C x q b 2 (by decide) 8 9 10 11 rfl rfl rfl rfl (cf x gv wa ba b) 512 256 rfl rfl (by decide) (by decide)
    (by decide) (by decide) (by decide) (by decide) _ (hp 512 (by decide))
  have h3 := block_eq C x q b 3 (by decide) 12 13 14 15 rfl rfl rfl rfl (cf x gv wa ba b) 768 384 rfl rfl (by decide) (by decide)
    (by decide) (by decide) (by decide) (by decide) _ (hp 768 (by decide))
  have h4 := slot_eq C x q b 16 (fun o => cut2 64 64 s5 0 512 (by decide) (by decide) (ix2 q ⟨o.val, by omega⟩)) _
    (cf x gv wa ba b 16) (fun o => ⟨by omega, Prep.at2 s5 (Nat.zero_add _) rfl⟩)
    (fun o => row_eq C x b 4 (by decide) 0 16 rfl o 1024 512 rfl rfl (by decide) (by decide) (by decide) (by decide) _
      (hp 1024 (by decide)) ⟨o.val, by omega⟩ (Nat.zero_add _).symm)
  have h5 := slot_eq C x q b 17 (fun o => cut2 64 64 s5 0 512 (by decide) (by decide) (ix2 q ⟨32 + o.val, by omega⟩)) _
    (cf x gv wa ba b 17) (fun o => ⟨by have := o.isLt; show 32 * 17 + o.val < 640; omega, Prep.at2 s5 (Nat.zero_add _) (by show 512 + (32 + o.val) = 32 * 17 + o.val; omega)⟩)
    (fun o => row_eq C x b 4 (by decide) 1 17 rfl o 1024 512 rfl rfl (by decide) (by decide) (by decide) (by decide) _
      (hp 1024 (by decide)) ⟨32 + o.val, by omega⟩ rfl)
  rw [h0, h1, h2, h3, h4, h5]
  simp only [add_assoc]

end Cert.KernelIdeal.Read
end
-- ==== Proof.Carry.lean ====
module
public import proofs.«01_k».proof.Proof.Read
public import Idealize.ShloMosaic.Lib.Claim
@[expose] public section
set_option maxRecDepth 16384
noncomputable section

/-! The blocks of every point as parts of the arrays, and the carried buffers at every point: what the first point prepared. -/

namespace Cert.KernelIdeal.Carry
open Idealize.ShloMosaic Idealize.ShloMosaic.TcCoe Idealize.SL.Sem
open Cert.KernelIdeal Cert.KernelIdeal.Gen Cert.KernelIdeal.Prep

/-- Where each window's block lies: the two data windows and the output at column block `t`, the others at their whole arrays. -/
theorem idx : ∀ t : Fin cfg0.N, win0_0.index t = ![0, t.val] ∧ win0_1.index t = ![0, t.val] ∧ win0_2.index t = ![0, 0, 0]
    ∧ win0_3.index t = ![0, 0] ∧ win0_4.index t = ![0, 0, 0] ∧ win0_5.index t = ![0, 0] ∧ win0_6.index t = ![0, 0, 0]
    ∧ win0_7.index t = ![0, 0] ∧ win0_8.index t = ![0, 0] ∧ win0_9.index t = ![0, 0] ∧ win0_10.index t = ![0, 0]
    ∧ win0_11.index t = ![0, 0] ∧ win0_12.index t = ![0, t.val] ∧ t.val < 4 := (by decide +kernel : ∀ t : Fin grid0.N, _)

variable (m : (ℓ : Loc nD τ sig) → Buf (Elt Ideal) ℓ) (c : Dev nD) (t : Fin cfg0.N)

theorem w1_all : bw1 m c t = m ((c.tc : Thread nD τ).loc main_arg2) := by blk_ext! [iblk, V_main_arg2, idx t]
theorem b1_all : bb1 m c t = m ((c.tc : Thread nD τ).loc main_arg3) := by blk_ext! [iblk, V_main_arg3, idx t]
theorem b2_all : bb2 m c t = m ((c.tc : Thread nD τ).loc main_arg5) := by blk_ext! [iblk, V_main_arg5, idx t]
theorem w3_all : bw3 m c t = m ((c.tc : Thread nD τ).loc main_arg6) := by blk_ext! [iblk, V_main_arg6, idx t]
theorem b3_all : bb3 m c t = m ((c.tc : Thread nD τ).loc main_arg7) := by blk_ext! [iblk, V_main_arg7, idx t]
theorem w2_arr : bw2 m c t = V m c main_v4 := by blk_ext! [iblk, idx t]
theorem wg_arr : bwg m c t = V m c main_v3 := by blk_ext! [iblk, idx t]
theorem w2_all (g : Fin 18) (o : Fin 32) (e : Fin 64) : bw2 m c t (ix3 g o e)
    = m ((c.tc : Thread nD τ).loc main_arg4) (ix3 g e o) := by
  rw [w2_arr]
  simp only [V, V0, List.flatten_cons, List.flatten_nil, List.append_nil, hostOps0]
  after_results
  pointwise
theorem wa_all (g : Fin 18) (d : Fin 64) : bwa m c t (ix2 g d) = m ((c.tc : Thread nD τ).loc main_arg8) (ix2 d g) := by
  have h : bwa m c t = V m c main_v2 := by blk_ext! [iblk, idx t]
  rw [h]
  simp only [V, V0, List.flatten_cons, List.flatten_nil, List.append_nil, hostOps0]
  after_results
  pointwise
theorem ba_all (g : Fin 18) : bba m c t (ix2 g 0) = m ((c.tc : Thread nD τ).loc main_arg9) (ix1 g) := by
  have h : bba m c t = V m c main_v5 := by blk_ext! [iblk, idx t]
  rw [h]
  simp only [V, V0, List.flatten_cons, List.flatten_nil, List.append_nil, hostOps0]
  after_results
  pointwise
theorem wg_all (q : Fin 64) (k : Fin 96) : bwg m c t (ix2 q k) = m ((c.tc : Thread nD τ).loc main_arg10) (ix2 k q) := by
  rw [wg_arr]
  simp only [V, V0, List.flatten_cons, List.flatten_nil, List.append_nil, hostOps0]
  after_results
  pointwise
theorem bg_all (q : Fin 64) : bbg m c t (ix2 q 0) = m ((c.tc : Thread nD τ).loc main_arg11) (ix1 q) := by
  have h : bbg m c t = V m c main_v6 := by blk_ext! [iblk, idx t]
  rw [h]
  simp only [V, V0, List.flatten_cons, List.flatten_nil, List.append_nil, hostOps0]
  after_results
  pointwise
theorem x_at (d : Fin 64) (b : Fin 4096) (r : Fin 16384) (hr : r.val = 4096 * t.val + b.val) :
    bx m c t (ix2 d b) = m ((c.tc : Thread nD τ).loc main_arg0) (ix2 r d) := by
  have h : bx m c t (ix2 d b) = V m c main_v0 (ix2 d r) := by blk_ext [iblk, idx t]
  rw [h]
  simp only [V, V0, List.flatten_cons, List.flatten_nil, List.append_nil, hostOps0]
  after_results
  pointwise
theorem gv_at (g : Fin 18) (b : Fin 4096) (r : Fin 16384) (hr : r.val = 4096 * t.val + b.val) :
    bgv m c t (ix2 g b) = m ((c.tc : Thread nD τ).loc main_arg1) (ix2 r g) := by
  have h : bgv m c t (ix2 g b) = V m c main_v1 (ix2 g r) := by blk_ext [iblk, idx t]
  rw [h]
  simp only [V, V0, List.flatten_cons, List.flatten_nil, List.append_nil, hostOps0]
  after_results
  pointwise

/-- The contents of the carried buffers, over the whole arrays that the region finds. -/
abbrev Holds (n : ℕ) (hn : n < cfg0.N) : Prop :=
  Read.Carried (m ((c.tc : Thread nD τ).loc main_arg2)) (m ((c.tc : Thread nD τ).loc main_arg3)) (V m c main_v4)
    (m ((c.tc : Thread nD τ).loc main_arg5)) (m ((c.tc : Thread nD τ).loc main_arg6)) (m ((c.tc : Thread nD τ).loc main_arg7))
    (V m c main_v3) (outsAt0 m c n hn).2.1 (outsAt0 m c n hn).2.2.1 (outsAt0 m c n hn).2.2.2.1 (outsAt0 m c n hn).2.2.2.2.1
    (outsAt0 m c n hn).2.2.2.2.2.1 (outsAt0 m c n hn).2.2.2.2.2.2

/-- The first point prepares the carried buffers. -/
theorem holds_first (h : t.val % 4 = 0) : Holds m c t.val t.isLt := by
  unfold Holds
  rw [← w1_all m c t, ← b1_all m c t, ← w2_arr m c t, ← b2_all m c t, ← w3_all m c t, ← b3_all m c t, ← wg_arr m c t]
  exact ⟨wbig_group m c t h, wbig_out m c t h, bias1 m c t h, bias2 m c t h, w2_on m c t h, w2_off m c t h, fold_w m c t h,
    fold_b m c t h⟩

/-- A later point leaves the carried buffers as the point before it left them. -/
theorem kept (h : ¬t.val % 4 = 0) : (outsAt0 m c t.val t.isLt).2 = (outsAt0 m c (t.val - 1) (Nat.lt_of_le_of_lt (Nat.sub_le _ _) t.isLt)).2 := by
  rw [outsAt0_B m c t h]
  simp only [sout0_B_0, sout0_B_1, sout0_B_2, sout0_B_3, sout0_B_5, sout0_B_6]

/-- The carried buffers hold the re-laid weights after every point. -/
theorem holds (n : ℕ) (hn : n < cfg0.N) : Holds m c n hn := by
  induction n with
  | zero => exact holds_first m c ⟨0, hn⟩ rfl
  | succ k ih =>
    have h4 := (idx ⟨k + 1, hn⟩).2.2.2.2.2.2.2.2.2.2.2.2.2
    have e : (outsAt0 m c (k + 1) hn).2 = (outsAt0 m c k (Nat.lt_of_succ_lt hn)).2 := kept m c ⟨k + 1, hn⟩ (by
      show ¬(k + 1) % 4 = 0
      have h4' : k + 1 < 4 := h4
      omega)
    unfold Holds
    rw [e]
    exact ih (Nat.lt_of_succ_lt hn)

/-- What a point leaves in its output block, one expression for the first point and the later ones. -/
theorem left : (outsAt0 m c t.val t.isLt).1
    = Step.out (bx m c t) (bgv m c t) (bwa m c t) (bba m c t) (bbg m c t) (outsAt0 m c t.val t.isLt).2.1
      (outsAt0 m c t.val t.isLt).2.2.1 (outsAt0 m c t.val t.isLt).2.2.2.1 (outsAt0 m c t.val t.isLt).2.2.2.2.1
      (outsAt0 m c t.val t.isLt).2.2.2.2.2.1 (outsAt0 m c t.val t.isLt).2.2.2.2.2.2 := by
  by_cases h : t.val % 4 = 0
  · exact Step.first m c t h
  · exact Step.later m c t h

end Cert.KernelIdeal.Carry
end
-- ==== Proof.Answer.lean ====
module
public import proofs.«01_k».proof.Proof.Spec
public import Idealize.ShloMosaic.Lib.Pointwise
@[expose] public section
noncomputable section

/-! The result as a function of the twelve inputs, and its equality with the folded form when the inputs are finite. -/

namespace Cert.Answer
open Idealize.ShloMosaic Idealize.ShloMosaic.TcCoe Idealize.SL.Sem

variable (x : FVec Ideal ⟨2, ![16384, 64]⟩ .f32) (gv : FVec Ideal ⟨2, ![16384, 18]⟩ .f32) (w1 : FVec Ideal ⟨3, ![18, 64, 64]⟩ .f32)
  (b1 : FVec Ideal ⟨2, ![18, 64]⟩ .f32) (w2 : FVec Ideal ⟨3, ![18, 64, 32]⟩ .f32) (b2 : FVec Ideal ⟨2, ![18, 32]⟩ .f32)
  (w3 : FVec Ideal ⟨3, ![18, 32, 32]⟩ .f32) (b3 : FVec Ideal ⟨2, ![18, 32]⟩ .f32) (wa : FVec Ideal ⟨2, ![64, 18]⟩ .f32)
  (ba : FVec Ideal ⟨1, ![18]⟩ .f32) (wg : FVec Ideal ⟨2, ![96, 64]⟩ .f32) (bg : FVec Ideal ⟨1, ![64]⟩ .f32)

/-- The second hidden layer of group `g` for row `r`. -/
def hidden (r : Fin 16384) (g : Fin 18) : Fin 32 → EReal :=
  Spec.hid2 (Spec.hid1 (fun d => x (ix2 r d)) (fun d e => w1 (ix3 g d e)) fun e => b1 (ix2 g e))
    (fun e o => w2 (ix3 g e o)) fun o => b2 (ix2 g o)

/-- The coefficient of group `g` for row `r`: the attention weight times the genre entry. -/
def coef (r : Fin 16384) (g : Fin 18) : EReal :=
  Spec.soft (Spec.logit (fun d => x (ix2 r d)) (fun d g => wa (ix2 d g)) fun g => ba (ix1 g)) g * gv (ix2 r g)

/-- The result at row `r` and column `q`. -/
def value (r : Fin 16384) (q : Fin 64) : EReal :=
  max (((∑ d : Fin 64, x (ix2 r d) * wg (ix2 ⟨d.val, by omega⟩ q))
    + Spec.refined (hidden x w1 b1 w2 b2 r) (fun g o h => w3 (ix3 g o h)) (fun g h => b3 (ix2 g h)) (coef x gv wa ba r)
        (fun h => wg (ix2 ⟨64 + h.val, by omega⟩ q))) + bg (ix1 q)) 0

/-- The inputs that must be finite for the folding: all but the final bias and the first 64 rows of the final weights. -/
structure Finite : Prop where
  x : ∀ r d, Spec.Fin' (x (ix2 r d))
  gv : ∀ r g, Spec.Fin' (gv (ix2 r g))
  w1 : ∀ g d e, Spec.Fin' (w1 (ix3 g d e))
  b1 : ∀ g e, Spec.Fin' (b1 (ix2 g e))
  w2 : ∀ g e o, Spec.Fin' (w2 (ix3 g e o))
  b2 : ∀ g o, Spec.Fin' (b2 (ix2 g o))
  w3 : ∀ g o h, Spec.Fin' (w3 (ix3 g o h))
  b3 : ∀ g h, Spec.Fin' (b3 (ix2 g h))
  wa : ∀ d g, Spec.Fin' (wa (ix2 d g))
  ba : ∀ g, Spec.Fin' (ba (ix1 g))
  wg : ∀ (h : Fin 32) (q : Fin 64), Spec.Fin' (wg (ix2 ⟨64 + h.val, by omega⟩ q))

/-- With those inputs finite, the kernel's folded form is the result. -/
theorem folded (H : Finite x gv w1 b1 w2 b2 w3 b3 wa ba wg) (r : Fin 16384) (q : Fin 64) :
    max ((((∑ d : Fin 64, wg (ix2 ⟨d.val, by omega⟩ q) * x (ix2 r d))
        + Spec.foldedBias (fun g h => b3 (ix2 g h)) (coef x gv wa ba r) (fun h => wg (ix2 ⟨64 + h.val, by omega⟩ q)))
        + bg (ix1 q))
        + Spec.foldedProd (hidden x w1 b1 w2 b2 r) (fun g o h => w3 (ix3 g o h)) (coef x gv wa ba r)
            (fun h => wg (ix2 ⟨64 + h.val, by omega⟩ q))) 0
      = value x gv w1 b1 w2 b2 w3 b3 wa ba wg bg r q := by
  unfold value
  rw [← Spec.folded_eq (k := hidden x w1 b1 w2 b2 r) (c := coef x gv wa ba r)
    (fun g o => Spec.fin_hid2 (Spec.fin_hid1 (H.x r) (H.w1 g) (H.b1 g)) (H.w2 g) (H.b2 g) o) H.w3 H.b3
    (fun g => Spec.fin_mul (Spec.fin_soft (Spec.fin_logit (H.x r) H.wa H.ba) g) (H.gv r g)) (fun h => H.wg h q)]
  simp only [mul_comm (wg _)]
  congr 1
  simp only [add_assoc, add_comm, add_left_comm]

end Cert.Answer
end
-- ==== Proof.Final.lean ====
module
public import proofs.«01_k».proof.Proof.Carry
public import proofs.«01_k».proof.Proof.Answer
@[expose] public section
set_option maxRecDepth 16384
noncomputable section

/-! The kernel's whole output array, for finite inputs: the result, transposed. -/

namespace Cert.KernelIdeal.Final
open Idealize.ShloMosaic Idealize.ShloMosaic.TcCoe Idealize.SL.Sem
open Cert.KernelIdeal Cert.KernelIdeal.Gen Cert.KernelIdeal.Prep

variable (m : (ℓ : Loc nD τ sig) → Buf (Elt Ideal) ℓ) (c : Dev nD)

/-- The argument arrays of a memory have the finite entries that the folding asks for. -/
abbrev Fin₀ : Prop := Answer.Finite (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
  (m ((c.tc : Thread nD τ).loc main_arg8)) (m ((c.tc : Thread nD τ).loc main_arg9)) (m ((c.tc : Thread nD τ).loc main_arg10))

/-- The result at row `r` and column `q`, over the argument arrays of a memory. -/
abbrev ans (r : Fin 16384) (q : Fin 64) : EReal := Answer.value (m ((c.tc : Thread nD τ).loc main_arg0))
  (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
  (m ((c.tc : Thread nD τ).loc main_arg8)) (m ((c.tc : Thread nD τ).loc main_arg9)) (m ((c.tc : Thread nD τ).loc main_arg10))
  (m ((c.tc : Thread nD τ).loc main_arg11)) r q

/-- A point's output block at row `q` and column `b` is the result at the array's row that the column stands for. -/
theorem point (H : Fin₀ m c) (t : Fin cfg0.N) (q : Fin 64) (b : Fin 4096) (r : Fin 16384) (hr : r.val = 4096 * t.val + b.val) :
    (outsAt0 m c t.val t.isLt).1 (ix2 q b) = ans m c r q := by
  rw [Carry.left m c t]
  refine (Read.out_read (Carry.holds m c t.val t.isLt) _ _ _ _ _ q b).trans ?_
  refine Eq.trans ?_ (Answer.folded _ _ _ _ _ _ _ _ _ _ _ _ H r q)
  have hwg : ∀ k : Fin 96, V m c main_v3 (ix2 q k) = m ((c.tc : Thread nD τ).loc main_arg10) (ix2 k q) := fun k => by
    rw [← Carry.wg_arr m c t]; exact Carry.wg_all m c t q k
  have hw2 : ∀ (g : Fin 18) (o : Fin 32) (e : Fin 64), V m c main_v4 (ix3 g o e) = m ((c.tc : Thread nD τ).loc main_arg4) (ix3 g e o) :=
    fun g o e => by rw [← Carry.w2_arr m c t]; exact Carry.w2_all m c t g o e
  have hx : ∀ d : Fin 64, bx m c t (ix2 d b) = m ((c.tc : Thread nD τ).loc main_arg0) (ix2 r d) := fun d => Carry.x_at m c t d b r hr
  have hc : Read.cf (bx m c t) (bgv m c t) (bwa m c t) (bba m c t) b
      = Answer.coef (m ((c.tc : Thread nD τ).loc main_arg0)) (m ((c.tc : Thread nD τ).loc main_arg1))
        (m ((c.tc : Thread nD τ).loc main_arg8)) (m ((c.tc : Thread nD τ).loc main_arg9)) r := by
    funext g
    unfold Answer.coef
    simp only [Read.cf, hx, Carry.wa_all, Carry.ba_all, Carry.gv_at m c t g b r hr]
  have hh : Read.hid (m ((c.tc : Thread nD τ).loc main_arg2)) (m ((c.tc : Thread nD τ).loc main_arg3)) (V m c main_v4)
        (m ((c.tc : Thread nD τ).loc main_arg5)) (bx m c t) b
      = Answer.hidden (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg5)) r := by
    funext g
    unfold Answer.hidden
    simp only [Read.hid, hx, hw2]
  rw [hc, hh, Carry.bg_all m c t q]
  simp only [hwg, hx]

/-- The output array after the run. -/
theorem final (H : Fin₀ m c) : (dats m 0 c).arrAt 12 (cfgs 0).N
    = ((fun j => ans m c (j 1) (j 0)) : FVec Ideal S64x16384 .f32) := by
  refine (dats m 0 c).arrAt_eq_of_covers 12 _ (by decide +kernel) fun t hf y => ?_
  blk_simp
  rw [after0_12]
  have e1 : ((win0_12.blk t).view.emb y 1).val = 4096 * t.val + (y 1).val := by
    blk_simp [Carry.idx t]
    simp [Nat.mul_comm]
  have e0 : ((win0_12.blk t).view.emb y 0).val = (y 0).val := by
    blk_simp [Carry.idx t]
  refine (congrArg (outsAt0 m c t.val t.isLt).1 (eq_ix2 y)).trans ((point m c H t (y 0) (y 1) _ e1).trans ?_)
  exact congrArg (ans m c _) (Fin.ext e0.symm)

/-- The result array: the output array transposed back. -/
theorem tail (H : Fin₀ m c) : Pipeline.afterTail₀ cfgs (dats m) 0 (V0 m) [hostOps1] c main_v8
    = ((fun j => ans m c (j 0) (j 1)) : FVec Ideal S16384x64 .f32) := by
  have e := (Pipeline.withArrays_arr spec0 launch0.win.arr_inj c (V0 m c) (fun w => (dats m 0 c).arrAt w (cfgs 0).N) 12).trans
    (final m c H)
  unfold Pipeline.afterTail₀
  simp only [hostOps1, List.flatten_cons, List.flatten_nil, List.append_nil]
  after_results
  refine (congrArg (fun z : FVec Ideal S64x16384 .f32 => transpose S16384x64 [1, 0] z transposes_S64x16384_S16384x64_1_0) e).trans ?_
  funext j
  idx_vars j
  pointwise

/-- The run of the idealized kernel on finite inputs: the result, and the arguments unchanged. -/
theorem run (ρ : Dev nD → PrngReg) (H : ∀ c, Fin₀ m c) :
    θ_run defs (onTc (τ := τ) (main (F := Ideal))) ⟨m, fun _ => 0, ρ⟩ (fun r => ∀ c : Dev nD,
      r.2.mem ((c.tc : Thread nD τ).loc main_v8) = ((fun j => ans m c (j 0) (j 1)) : FVec Ideal S16384x64 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h.2 c).2 main_v8 (Pipeline.mem_restRefs_of main_v8 (by decide) (by decide))).trans
    (tail m c (H c)), h.1 c⟩) (θ_run_and (unchanged m ρ) (run_main m ρ))

end Cert.KernelIdeal.Final
end
-- ==== Proof.Finite.lean ====
module
public import proofs.«01_k».proof.Defs
public import proofs.«01_k».proof.Proof.Final
@[expose] public section
noncomputable section

/-! The precondition, read as finiteness of the entries. -/

namespace Cert.Finite
open Idealize.ShloMosaic Idealize.ShloMosaic.TcCoe Idealize.SL.Sem

/-- The side conditions that the precondition states. -/
theorem facts : Cert.Pre_finite_inputs.Facts :=
  ⟨by decide, by decide, by decide, by decide, by decide, by decide, by decide, by decide, by decide, by decide, by decide⟩

/-- The bit pattern of plus infinity. -/
theorem ofBits_top : Ideal.ofBits .f32 0x7F800000#32 = ⊤ := by simp [Ideal.ofBits, Ideal.ieee]

/-- An extended real whose absolute value lies below plus infinity is a real number. -/
theorem fin_of_abs {a : EReal} (h : max a (-a) < ⊤) : Spec.Fin' a := by
  induction a using EReal.rec with
  | bot => simp at h
  | top => simp at h
  | coe r => exact ⟨r, rfl⟩

/-- A comparison of absolute values with plus infinity that is all ones says that every entry is finite. -/
theorem fin_of_ones {S : Shape} (a : FVec Ideal S .f32) (hb : Cert.Pre_finite_inputs.S_.BroadcastsInDim S ![])
    (h : cmpf .olt (Host.absf a) (broadcastInDim S ![] hb (constant Cert.Pre_finite_inputs.S_ .f32 0x7F800000#32)) = fun _ => 1#1)
    (i : S.Idx) : Spec.Fin' (a i) := by
  have e : Ideal.cmp .olt (max (a i) (-(a i))) (Ideal.ofBits .f32 0x7F800000#32) = 1#1 := congrFun h i
  rw [ofBits_top] at e
  refine fin_of_abs ?_
  by_contra hn
  simp [Ideal.cmp, hn] at e

/-- An entry of the last 32 rows of the final weights, from the slice that the precondition takes. -/
theorem fin_slice (w : FVec Ideal Cert.Pre_finite_inputs.S96x64 .f32)
    (hs : Cert.Pre_finite_inputs.S96x64.Slices ![64, 0] Cert.Pre_finite_inputs.S32x64) (k : Fin 32) (q : Fin 64)
    (e : Spec.Fin' (extractStridedSlice Cert.Pre_finite_inputs.S32x64 ![64, 0] w hs (ix2 k q))) :
    Spec.Fin' (w (ix2 ⟨64 + k.val, by omega⟩ q)) := by
  have h : extractStridedSlice Cert.Pre_finite_inputs.S32x64 ![64, 0] w hs (ix2 k q) = w (ix2 ⟨64 + k.val, by omega⟩ q) := by
    pointwise
  exact h ▸ e

open Cert.KernelIdeal in
/-- Under the precondition the kernel's arguments have the finite entries that the folding asks for. -/
theorem of_pre (m : (ℓ : Loc nD τ sig) → Buf (Elt Ideal) ℓ)
    (h : Cert.Pre_KernelIdeal_finite_inputs (hPre_finite_inputs := facts) m) (c : Dev nD) : Final.Fin₀ m c := by
  obtain ⟨h0, h1, h2, h3, h4, h5, h6, h7, h8, h9, h10⟩ := h c
  exact
    { x := fun r d => fin_of_ones _ _ h0 (ix2 r d)
      gv := fun r g => fin_of_ones _ _ h1 (ix2 r g)
      w1 := fun g d e => fin_of_ones _ _ h2 (ix3 g d e)
      b1 := fun g e => fin_of_ones _ _ h3 (ix2 g e)
      w2 := fun g e o => fin_of_ones _ _ h4 (ix3 g e o)
      b2 := fun g o => fin_of_ones _ _ h5 (ix2 g o)
      w3 := fun g o k => fin_of_ones _ _ h6 (ix3 g o k)
      b3 := fun g k => fin_of_ones _ _ h7 (ix2 g k)
      wa := fun d g => fin_of_ones _ _ h8 (ix2 d g)
      ba := fun g => fin_of_ones _ _ h9 (ix1 g)
      wg := fun k q => fin_slice _ _ k q (fin_of_ones _ _ h10 (ix2 k q)) }

end Cert.Finite
end
-- ==== Proof.lean ====
/- The certificate: the frames of the three programs, that the idealization preserves the kernel, and that for finite inputs
   the idealized kernel and the reference end with the same result. -/
module

public import proofs.«01_k».proof.Proof.Gen.ReferenceIdeal.Run
public import proofs.«01_k».proof.Defs
public import proofs.«01_k».proof.Proof.Ref
public import proofs.«01_k».proof.Proof.Finite
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference's frame: its run leaves the arguments unchanged, and it has no semaphores. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- For finite inputs the idealized kernel and the reference end with the same result. -/
theorem algebraic : Cert.algebraic_KernelIdeal_ReferenceIdeal_pre_finite_inputs (hPre_finite_inputs := Cert.Finite.facts) := by
  pair_intro
  · exact Cert.KernelIdeal.Final.run m g (Cert.Finite.of_pre m hpre)
  · run_from Cert.ReferenceIdeal.Value.run (F := Ideal) m' g'
    obtain ⟨h0, h1, h2, h3, h4, h5, h6, h7, h8, h9, h10, h11⟩ := hagree c
    funext j
    rw [eq_ix2 j]
    exact Cert.Ref.read m' c _ _ _ _ _ _ _ _ _ _ _ _ h0 h1 h2 h3 h4 h5 h6 h7 h8 h9 h10 h11 (j 0) (j 1)

/-- The claims. -/
theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial, trivial, algebraic⟩

end Cert.Proof

end
